-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 512]⟩ ⟨2, ![512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x128 : Shape := ⟨2, ![256, 128]⟩
abbrev S512x1 : Shape := ⟨2, ![512, 1]⟩
abbrev S4x256x512 : Shape := ⟨3, ![4, 256, 512]⟩
abbrev S256x512 : Shape := ⟨2, ![256, 512]⟩
abbrev S16x512 : Shape := ⟨2, ![16, 512]⟩
abbrev S512x512 : Shape := ⟨2, ![512, 512]⟩
abbrev S32x16x512 : Shape := ⟨3, ![32, 16, 512]⟩
abbrev S32 : Shape := ⟨1, ![32]⟩
abbrev S_ : Shape := ⟨0, ![]⟩
abbrev S512x128 : Shape := ⟨2, ![512, 128]⟩
abbrev S512 : Shape := ⟨1, ![512]⟩
abbrev S1x256x512 : Shape := ⟨3, ![1, 256, 512]⟩
abbrev S1 : Shape := ⟨1, ![1]⟩
abbrev S1x16x512 : Shape := ⟨3, ![1, 16, 512]⟩
abbrev S16x256 : Shape := ⟨2, ![16, 256]⟩
abbrev S31x16x512 : Shape := ⟨3, ![31, 16, 512]⟩

abbrev nBuf : Space → Nat
  | .hbm => 6
  | .vmem => 8
  | .smem => 0
  | _ => 0

abbrev bufTy : (tb : Table) → Fin (tcTables nBuf tb) → BufTy
  | .hbm, ⟨0, _⟩ => ⟨S512x256, .bf16⟩
  | .hbm, ⟨1, _⟩ => ⟨S256x128, .bf16⟩
  | .hbm, ⟨2, _⟩ => ⟨S512x1, .i32⟩
  | .hbm, ⟨3, _⟩ => ⟨S4x256x512, .bf16⟩
  | .hbm, ⟨4, _⟩ => ⟨S256x512, .bf16⟩
  | .hbm, ⟨5, _⟩ => ⟨S16x512, .f32⟩
  | .local _ .vmem, ⟨0, _⟩ => ⟨S512x256, .bf16⟩
  | .local _ .vmem, ⟨1, _⟩ => ⟨S256x128, .bf16⟩
  | .local _ .vmem, ⟨2, _⟩ => ⟨S512x1, .i32⟩
  | .local _ .vmem, ⟨3, _⟩ => ⟨S4x256x512, .bf16⟩
  | .local _ .vmem, ⟨4, _⟩ => ⟨S256x512, .bf16⟩
  | .local _ .vmem, ⟨5, _⟩ => ⟨S16x512, .f32⟩
  | .local _ .vmem, ⟨6, _⟩ => ⟨S512x512, .bf16⟩
  | .local _ .vmem, ⟨7, _⟩ => ⟨S32x16x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_164 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v206 : BitVec 32 := Scalar.addi v2 c1_i32_164
  let c32_i32_165 : BitVec 32 := 32#32
  let v207 : BitVec 32 := Scalar.remsi v206 c32_i32_165
  let c16_i32_166 : BitVec 32 := 16#32
  let v208 : BitVec 32 := Scalar.muli v207 c16_i32_166
  let c0_i32_174 : BitVec 32 := 0#32
  ![v208.toNat, 0]
def k0_dev32 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_164 : BitVec 32 := 1#32
  let v206 : BitVec 32 := Scalar.addi v2 c1_i32_164
  let c32_i32_165 : BitVec 32 := 32#32
  let v207 : BitVec 32 := Scalar.remsi v206 c32_i32_165
  let c1_i32_170 : BitVec 32 := 1#32
  let v209 : BitVec 32 := Scalar.muli v207 c1_i32_170
  let v210 : BitVec 32 := Scalar.addi c0_i32_171 v209
  v210.toNat
def k0_dev33 (d0 : Dev nD) : Nat :=
  let c0_i32_182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_175 : BitVec 32 := 2#32
  let v218 : BitVec 32 := Scalar.addi v2 c2_i32_175
  let c32_i32_176 : BitVec 32 := 32#32
  let v219 : BitVec 32 := Scalar.remsi v218 c32_i32_176
  let c1_i32_181 : BitVec 32 := 1#32
  let v221 : BitVec 32 := Scalar.muli v219 c1_i32_181
  let v222 : BitVec 32 := Scalar.addi c0_i32_182 v221
  v222.toNat
def k0_dev34 (d0 : Dev nD) : Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_186 : BitVec 32 := 3#32
  let v230 : BitVec 32 := Scalar.addi v2 c3_i32_186
  let c32_i32_187 : BitVec 32 := 32#32
  let v231 : BitVec 32 := Scalar.remsi v230 c32_i32_187
  let c1_i32_192 : BitVec 32 := 1#32
  let v233 : BitVec 32 := Scalar.muli v231 c1_i32_192
  let v234 : BitVec 32 := Scalar.addi c0_i32_193 v233
  v234.toNat
def k0_dev35 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_197 : BitVec 32 := 4#32
  let v242 : BitVec 32 := Scalar.addi v2 c4_i32_197
  let c32_i32_198 : BitVec 32 := 32#32
  let v243 : BitVec 32 := Scalar.remsi v242 c32_i32_198
  let c1_i32_203 : BitVec 32 := 1#32
  let v245 : BitVec 32 := Scalar.muli v243 c1_i32_203
  let v246 : BitVec 32 := Scalar.addi c0_i32_204 v245
  v246.toNat
def k0_dev36 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_208 : BitVec 32 := 5#32
  let v254 : BitVec 32 := Scalar.addi v2 c5_i32_208
  let c32_i32_209 : BitVec 32 := 32#32
  let v255 : BitVec 32 := Scalar.remsi v254 c32_i32_209
  let c1_i32_214 : BitVec 32 := 1#32
  let v257 : BitVec 32 := Scalar.muli v255 c1_i32_214
  let v258 : BitVec 32 := Scalar.addi c0_i32_215 v257
  v258.toNat
def k0_dev37 (d0 : Dev nD) : Nat :=
  let c0_i32_226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_219 : BitVec 32 := 6#32
  let v266 : BitVec 32 := Scalar.addi v2 c6_i32_219
  let c32_i32_220 : BitVec 32 := 32#32
  let v267 : BitVec 32 := Scalar.remsi v266 c32_i32_220
  let c1_i32_225 : BitVec 32 := 1#32
  let v269 : BitVec 32 := Scalar.muli v267 c1_i32_225
  let v270 : BitVec 32 := Scalar.addi c0_i32_226 v269
  v270.toNat
def k0_dev38 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_230 : BitVec 32 := 7#32
  let v278 : BitVec 32 := Scalar.addi v2 c7_i32_230
  let c32_i32_231 : BitVec 32 := 32#32
  let v279 : BitVec 32 := Scalar.remsi v278 c32_i32_231
  let c1_i32_236 : BitVec 32 := 1#32
  let v281 : BitVec 32 := Scalar.muli v279 c1_i32_236
  let v282 : BitVec 32 := Scalar.addi c0_i32_237 v281
  v282.toNat
def k0_dev39 (d0 : Dev nD) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_241 : BitVec 32 := 8#32
  let v290 : BitVec 32 := Scalar.addi v2 c8_i32_241
  let c32_i32_242 : BitVec 32 := 32#32
  let v291 : BitVec 32 := Scalar.remsi v290 c32_i32_242
  let c1_i32_247 : BitVec 32 := 1#32
  let v293 : BitVec 32 := Scalar.muli v291 c1_i32_247
  let v294 : BitVec 32 := Scalar.addi c0_i32_248 v293
  v294.toNat
def k0_dev40 (d0 : Dev nD) : Nat :=
  let c0_i32_259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_252 : BitVec 32 := 9#32
  let v302 : BitVec 32 := Scalar.addi v2 c9_i32_252
  let c32_i32_253 : BitVec 32 := 32#32
  let v303 : BitVec 32 := Scalar.remsi v302 c32_i32_253
  let c1_i32_258 : BitVec 32 := 1#32
  let v305 : BitVec 32 := Scalar.muli v303 c1_i32_258
  let v306 : BitVec 32 := Scalar.addi c0_i32_259 v305
  v306.toNat
def k0_dev41 (d0 : Dev nD) : Nat :=
  let c0_i32_270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_263 : BitVec 32 := 10#32
  let v314 : BitVec 32 := Scalar.addi v2 c10_i32_263
  let c32_i32_264 : BitVec 32 := 32#32
  let v315 : BitVec 32 := Scalar.remsi v314 c32_i32_264
  let c1_i32_269 : BitVec 32 := 1#32
  let v317 : BitVec 32 := Scalar.muli v315 c1_i32_269
  let v318 : BitVec 32 := Scalar.addi c0_i32_270 v317
  v318.toNat
def k0_dev42 (d0 : Dev nD) : Nat :=
  let c0_i32_281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_274 : BitVec 32 := 11#32
  let v326 : BitVec 32 := Scalar.addi v2 c11_i32_274
  let c32_i32_275 : BitVec 32 := 32#32
  let v327 : BitVec 32 := Scalar.remsi v326 c32_i32_275
  let c1_i32_280 : BitVec 32 := 1#32
  let v329 : BitVec 32 := Scalar.muli v327 c1_i32_280
  let v330 : BitVec 32 := Scalar.addi c0_i32_281 v329
  v330.toNat
def k0_dev43 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_285 : BitVec 32 := 12#32
  let v338 : BitVec 32 := Scalar.addi v2 c12_i32_285
  let c32_i32_286 : BitVec 32 := 32#32
  let v339 : BitVec 32 := Scalar.remsi v338 c32_i32_286
  let c1_i32_291 : BitVec 32 := 1#32
  let v341 : BitVec 32 := Scalar.muli v339 c1_i32_291
  let v342 : BitVec 32 := Scalar.addi c0_i32_292 v341
  v342.toNat
def k0_dev44 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_296 : BitVec 32 := 13#32
  let v350 : BitVec 32 := Scalar.addi v2 c13_i32_296
  let c32_i32_297 : BitVec 32 := 32#32
  let v351 : BitVec 32 := Scalar.remsi v350 c32_i32_297
  let c1_i32_302 : BitVec 32 := 1#32
  let v353 : BitVec 32 := Scalar.muli v351 c1_i32_302
  let v354 : BitVec 32 := Scalar.addi c0_i32_303 v353
  v354.toNat
def k0_dev45 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_307 : BitVec 32 := 14#32
  let v362 : BitVec 32 := Scalar.addi v2 c14_i32_307
  let c32_i32_308 : BitVec 32 := 32#32
  let v363 : BitVec 32 := Scalar.remsi v362 c32_i32_308
  let c1_i32_313 : BitVec 32 := 1#32
  let v365 : BitVec 32 := Scalar.muli v363 c1_i32_313
  let v366 : BitVec 32 := Scalar.addi c0_i32_314 v365
  v366.toNat
def k0_dev46 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_318 : BitVec 32 := 15#32
  let v374 : BitVec 32 := Scalar.addi v2 c15_i32_318
  let c32_i32_319 : BitVec 32 := 32#32
  let v375 : BitVec 32 := Scalar.remsi v374 c32_i32_319
  let c1_i32_324 : BitVec 32 := 1#32
  let v377 : BitVec 32 := Scalar.muli v375 c1_i32_324
  let v378 : BitVec 32 := Scalar.addi c0_i32_325 v377
  v378.toNat
def k0_dev47 (d0 : Dev nD) : Nat :=
  let c0_i32_336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_329 : BitVec 32 := 16#32
  let v386 : BitVec 32 := Scalar.addi v2 c16_i32_329
  let c32_i32_330 : BitVec 32 := 32#32
  let v387 : BitVec 32 := Scalar.remsi v386 c32_i32_330
  let c1_i32_335 : BitVec 32 := 1#32
  let v389 : BitVec 32 := Scalar.muli v387 c1_i32_335
  let v390 : BitVec 32 := Scalar.addi c0_i32_336 v389
  v390.toNat
def k0_dev48 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_340 : BitVec 32 := 17#32
  let v398 : BitVec 32 := Scalar.addi v2 c17_i32_340
  let c32_i32_341 : BitVec 32 := 32#32
  let v399 : BitVec 32 := Scalar.remsi v398 c32_i32_341
  let c1_i32_346 : BitVec 32 := 1#32
  let v401 : BitVec 32 := Scalar.muli v399 c1_i32_346
  let v402 : BitVec 32 := Scalar.addi c0_i32_347 v401
  v402.toNat
def k0_dev49 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_351 : BitVec 32 := 18#32
  let v410 : BitVec 32 := Scalar.addi v2 c18_i32_351
  let c32_i32_352 : BitVec 32 := 32#32
  let v411 : BitVec 32 := Scalar.remsi v410 c32_i32_352
  let c1_i32_357 : BitVec 32 := 1#32
  let v413 : BitVec 32 := Scalar.muli v411 c1_i32_357
  let v414 : BitVec 32 := Scalar.addi c0_i32_358 v413
  v414.toNat
def k0_dev50 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_362 : BitVec 32 := 19#32
  let v422 : BitVec 32 := Scalar.addi v2 c19_i32_362
  let c32_i32_363 : BitVec 32 := 32#32
  let v423 : BitVec 32 := Scalar.remsi v422 c32_i32_363
  let c1_i32_368 : BitVec 32 := 1#32
  let v425 : BitVec 32 := Scalar.muli v423 c1_i32_368
  let v426 : BitVec 32 := Scalar.addi c0_i32_369 v425
  v426.toNat
def k0_dev51 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_373 : BitVec 32 := 20#32
  let v434 : BitVec 32 := Scalar.addi v2 c20_i32_373
  let c32_i32_374 : BitVec 32 := 32#32
  let v435 : BitVec 32 := Scalar.remsi v434 c32_i32_374
  let c1_i32_379 : BitVec 32 := 1#32
  let v437 : BitVec 32 := Scalar.muli v435 c1_i32_379
  let v438 : BitVec 32 := Scalar.addi c0_i32_380 v437
  v438.toNat
def k0_dev52 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_384 : BitVec 32 := 21#32
  let v446 : BitVec 32 := Scalar.addi v2 c21_i32_384
  let c32_i32_385 : BitVec 32 := 32#32
  let v447 : BitVec 32 := Scalar.remsi v446 c32_i32_385
  let c1_i32_390 : BitVec 32 := 1#32
  let v449 : BitVec 32 := Scalar.muli v447 c1_i32_390
  let v450 : BitVec 32 := Scalar.addi c0_i32_391 v449
  v450.toNat
def k0_dev53 (d0 : Dev nD) : Nat :=
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_395 : BitVec 32 := 22#32
  let v458 : BitVec 32 := Scalar.addi v2 c22_i32_395
  let c32_i32_396 : BitVec 32 := 32#32
  let v459 : BitVec 32 := Scalar.remsi v458 c32_i32_396
  let c1_i32_401 : BitVec 32 := 1#32
  let v461 : BitVec 32 := Scalar.muli v459 c1_i32_401
  let v462 : BitVec 32 := Scalar.addi c0_i32_402 v461
  v462.toNat
def k0_dev54 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_406 : BitVec 32 := 23#32
  let v470 : BitVec 32 := Scalar.addi v2 c23_i32_406
  let c32_i32_407 : BitVec 32 := 32#32
  let v471 : BitVec 32 := Scalar.remsi v470 c32_i32_407
  let c1_i32_412 : BitVec 32 := 1#32
  let v473 : BitVec 32 := Scalar.muli v471 c1_i32_412
  let v474 : BitVec 32 := Scalar.addi c0_i32_413 v473
  v474.toNat
def k0_dev55 (d0 : Dev nD) : Nat :=
  let c0_i32_424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_417 : BitVec 32 := 24#32
  let v482 : BitVec 32 := Scalar.addi v2 c24_i32_417
  let c32_i32_418 : BitVec 32 := 32#32
  let v483 : BitVec 32 := Scalar.remsi v482 c32_i32_418
  let c1_i32_423 : BitVec 32 := 1#32
  let v485 : BitVec 32 := Scalar.muli v483 c1_i32_423
  let v486 : BitVec 32 := Scalar.addi c0_i32_424 v485
  v486.toNat
def k0_dev56 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_428 : BitVec 32 := 25#32
  let v494 : BitVec 32 := Scalar.addi v2 c25_i32_428
  let c32_i32_429 : BitVec 32 := 32#32
  let v495 : BitVec 32 := Scalar.remsi v494 c32_i32_429
  let c1_i32_434 : BitVec 32 := 1#32
  let v497 : BitVec 32 := Scalar.muli v495 c1_i32_434
  let v498 : BitVec 32 := Scalar.addi c0_i32_435 v497
  v498.toNat
def k0_dev57 (d0 : Dev nD) : Nat :=
  let c0_i32_446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_439 : BitVec 32 := 26#32
  let v506 : BitVec 32 := Scalar.addi v2 c26_i32_439
  let c32_i32_440 : BitVec 32 := 32#32
  let v507 : BitVec 32 := Scalar.remsi v506 c32_i32_440
  let c1_i32_445 : BitVec 32 := 1#32
  let v509 : BitVec 32 := Scalar.muli v507 c1_i32_445
  let v510 : BitVec 32 := Scalar.addi c0_i32_446 v509
  v510.toNat
def k0_dev58 (d0 : Dev nD) : Nat :=
  let c0_i32_457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_450 : BitVec 32 := 27#32
  let v518 : BitVec 32 := Scalar.addi v2 c27_i32_450
  let c32_i32_451 : BitVec 32 := 32#32
  let v519 : BitVec 32 := Scalar.remsi v518 c32_i32_451
  let c1_i32_456 : BitVec 32 := 1#32
  let v521 : BitVec 32 := Scalar.muli v519 c1_i32_456
  let v522 : BitVec 32 := Scalar.addi c0_i32_457 v521
  v522.toNat
def k0_dev59 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_461 : BitVec 32 := 28#32
  let v530 : BitVec 32 := Scalar.addi v2 c28_i32_461
  let c32_i32_462 : BitVec 32 := 32#32
  let v531 : BitVec 32 := Scalar.remsi v530 c32_i32_462
  let c1_i32_467 : BitVec 32 := 1#32
  let v533 : BitVec 32 := Scalar.muli v531 c1_i32_467
  let v534 : BitVec 32 := Scalar.addi c0_i32_468 v533
  v534.toNat
def k0_dev60 (d0 : Dev nD) : Nat :=
  let c0_i32_479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_472 : BitVec 32 := 29#32
  let v542 : BitVec 32 := Scalar.addi v2 c29_i32_472
  let c32_i32_473 : BitVec 32 := 32#32
  let v543 : BitVec 32 := Scalar.remsi v542 c32_i32_473
  let c1_i32_478 : BitVec 32 := 1#32
  let v545 : BitVec 32 := Scalar.muli v543 c1_i32_478
  let v546 : BitVec 32 := Scalar.addi c0_i32_479 v545
  v546.toNat
def k0_dev61 (d0 : Dev nD) : Nat :=
  let c0_i32_490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_483 : BitVec 32 := 30#32
  let v554 : BitVec 32 := Scalar.addi v2 c30_i32_483
  let c32_i32_484 : BitVec 32 := 32#32
  let v555 : BitVec 32 := Scalar.remsi v554 c32_i32_484
  let c1_i32_489 : BitVec 32 := 1#32
  let v557 : BitVec 32 := Scalar.muli v555 c1_i32_489
  let v558 : BitVec 32 := Scalar.addi c0_i32_490 v557
  v558.toNat
def k0_dev62 (d0 : Dev nD) : Nat :=
  let c0_i32_501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_494 : BitVec 32 := 31#32
  let v566 : BitVec 32 := Scalar.addi v2 c31_i32_494
  let c32_i32_495 : BitVec 32 := 32#32
  let v567 : BitVec 32 := Scalar.remsi v566 c32_i32_495
  let c1_i32_500 : BitVec 32 := 1#32
  let v569 : BitVec 32 := Scalar.muli v567 c1_i32_500
  let v570 : BitVec 32 := Scalar.addi c0_i32_501 v569
  v570.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_505 : BitVec 32 := 16#32
  let v578 : BitVec 32 := Scalar.muli v2 c16_i32_505
  let v579 : Index := Scalar.indexCast v578
  let c0_506 : Index := 0#32
  ![v579.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_510 : BitVec 32 := 16#32
  let v585 : BitVec 32 := Scalar.muli v2 c16_i32_510
  let v586 : Index := Scalar.indexCast v585
  let c0_511 : Index := 0#32
  ![v586.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x128 : Shape := ⟨2, ![256, 128]⟩
abbrev S512x1 : Shape := ⟨2, ![512, 1]⟩
abbrev S128x256x512 : Shape := ⟨3, ![128, 256, 512]⟩
abbrev S256x512 : Shape := ⟨2, ![256, 512]⟩
abbrev S512x128 : Shape := ⟨2, ![512, 128]⟩
abbrev S_ : Shape := ⟨0, ![]⟩
abbrev S512 : Shape := ⟨1, ![512]⟩
abbrev S512x512 : Shape := ⟨2, ![512, 512]⟩
abbrev S512x2 : Shape := ⟨2, ![512, 2]⟩
abbrev S512x256x512 : Shape := ⟨3, ![512, 256, 512]⟩

abbrev nBuf : Space → Nat
  | .hbm => 75
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x128, .bf16⟩
  | .hbm, ⟨2, _⟩ => ⟨S512x1, .i32⟩
  | .hbm, ⟨3, _⟩ => ⟨S128x256x512, .bf16⟩
  | .hbm, ⟨4, _⟩ => ⟨S256x512, .bf16⟩
  | .hbm, ⟨5, _⟩ => ⟨S512x256, .f32⟩
  | .hbm, ⟨6, _⟩ => ⟨S256x128, .f32⟩
  | .hbm, ⟨7, _⟩ => ⟨S512x128, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S512x128, .f32⟩
  | .hbm, ⟨18, _⟩ => ⟨S512x128, .f32⟩
  | .hbm, ⟨19, _⟩ => ⟨S256x512, .f32⟩
  | .hbm, ⟨20, _⟩ => ⟨S512x512, .f32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S_, .i32⟩
  | .hbm, ⟨26, _⟩ => ⟨S512, .i32⟩
  | .hbm, ⟨27, _⟩ => ⟨S512, .i1⟩
  | .hbm, ⟨28, _⟩ => ⟨S512, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S_, .i32⟩
  | .hbm, ⟨42, _⟩ => ⟨S512, .i32⟩
  | .hbm, ⟨43, _⟩ => ⟨S512, .i32⟩
  | .hbm, ⟨44, _⟩ => ⟨S512, .i32⟩
  | .hbm, ⟨45, _⟩ => ⟨S_, .i32⟩
  | .hbm, ⟨46, _⟩ => ⟨S512, .i32⟩
  | .hbm, ⟨47, _⟩ => ⟨S512, .i1⟩
  | .hbm, ⟨48, _⟩ => ⟨S_, .i32⟩
  | .hbm, ⟨49, _⟩ => ⟨S512, .i32⟩
  | .hbm, ⟨50, _⟩ => ⟨S512, .i32⟩
  | .hbm, ⟨51, _⟩ => ⟨S512, .i32⟩
  | .hbm, ⟨52, _⟩ => ⟨S512x1, .i32⟩
  | .hbm, ⟨53, _⟩ => ⟨S512x1, .i32⟩
  | .hbm, ⟨54, _⟩ => ⟨S512x2, .i32⟩
  | .hbm, ⟨55, _⟩ => ⟨S512, .f32⟩
  | .hbm, ⟨56, _⟩ => ⟨S_, .f32⟩
  | .hbm, ⟨57, _⟩ => ⟨S_, .f32⟩
  | .hbm, ⟨58, _⟩ => ⟨S512, .f32⟩
  | .hbm, ⟨59, _⟩ => ⟨S512, .f32⟩
  | .hbm, ⟨60, _⟩ => ⟨S128x256x512, .f32⟩
  | .hbm, ⟨61, _⟩ => ⟨S_, .i32⟩
  | .hbm, ⟨62, _⟩ => ⟨S512, .i32⟩
  | .hbm, ⟨63, _⟩ => ⟨S512, .i1⟩
  | .hbm, ⟨64, _⟩ => ⟨S_, .i32⟩
  | .hbm, ⟨65, _⟩ => ⟨S512, .i32⟩
  | .hbm, ⟨66, _⟩ => ⟨S512, .i32⟩
  | .hbm, ⟨67, _⟩ => ⟨S512, .i32⟩
  | .hbm, ⟨68, _⟩ => ⟨S512x1, .i32⟩
  | .hbm, ⟨69, _⟩ => ⟨S512x256x512, .f32⟩
  | .hbm, ⟨70, _⟩ => ⟨S512x512, .f32⟩
  | .hbm, ⟨71, _⟩ => ⟨S512x1, .f32⟩
  | .hbm, ⟨72, _⟩ => ⟨S512x512, .f32⟩
  | .hbm, ⟨73, _⟩ => ⟨S512x512, .f32⟩
  | .hbm, ⟨74, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_c_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_call1_v0 : Ref sig .tc := ⟨.hbm, 57, rfl⟩
abbrev main_call1_v1 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]
-- ==== Proof.Body.lean ====
/-
The kernel's body in the order of its memory operations, with each run of thirty-one like operations (the signals, the transfers, the
waits) written as one list over `r : Fin 31`, the distance of the partner being `r + 1`. The printed body is that program.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.K

open Cert.KernelIdeal Cert.KernelIdeal.Gen
open Idealize.ShloMosaic Idealize.ShloMosaic.TcCoe Idealize.SL.Sem

variable {F : FTy → Type} [FloatOps F]

/-! ## The buffers and semaphores -/

/-- The rows of activations, staged. -/
abbrev xM : Memref sig .tc .vmem S512x256 .bf16 := Memref.whole cc0_stg0_0
/-- The router's weights, staged. -/
abbrev rwM : Memref sig .tc .vmem S256x128 .bf16 := Memref.whole cc0_stg1_0
/-- The routed experts' numbers, staged. -/
abbrev ixM : Memref sig .tc .vmem S512x1 .i32 := Memref.whole cc0_stg2_0
/-- The matrices of the device's four experts, staged. -/
abbrev ewM : Memref sig .tc .vmem S4x256x512 .bf16 := Memref.whole cc0_stg3_0
/-- The shared expert's matrix, staged. -/
abbrev swM : Memref sig .tc .vmem S256x512 .bf16 := Memref.whole cc0_stg4_0
/-- The result's block, staged. -/
abbrev outM : Memref sig .tc .vmem S16x512 .f32 := Memref.whole cc0_stg5_0
/-- The sending buffer. -/
abbrev sndM : Memref sig .tc .vmem S512x512 .bf16 := Memref.whole cc0_scratch0
/-- The receiving buffer. -/
abbrev rcvM : Memref sig .tc .vmem S32x16x512 .bf16 := Memref.whole cc0_scratch1

/-- The barrier semaphore all devices share by name. -/
abbrev barS : Sem sig := (SemArray.scalar (sig.barrier 0 rfl) : Sems sig S_).sem

/-- Slot `k` lies inside the receiving buffer. -/
theorem slot_inb (k : Fin 32) : ∀ a : Fin 3, (![k.val, 0, 0] : Fin 3 → Nat) a + S1x16x512.size a ≤ S32x16x512.size a := by
  intro a
  match a with
  | 0 => show k.val + 1 ≤ 32; omega
  | 1 => show 0 + 16 ≤ 16; omega
  | 2 => show 0 + 512 ≤ 512; omega
/-- Semaphore `k` lies inside its array. -/
theorem sem_inb (k : Fin 32) : ∀ a : Fin 1, (![k.val] : Fin 1 → Nat) a + S1.size a ≤ S32.size a := by
  intro a
  match a with
  | 0 => show k.val + 1 ≤ 32; omega

/-- Slot `k` is made of whole words. -/
theorem slot_words : ∀ k : Fin 32, (Rect.unit (s := S32x16x512) ![k.val, 0, 0] S1x16x512.size (slot_inb k)).WholeWords (EltTy.packing .bf16) := by
  decide

/-- The slot `k` of the receiving buffer, as a block of sixteen rows. -/
abbrev slotM (k : Fin 32) : Memref sig .tc .vmem S16x512 .bf16 :=
  (rcvM.slice (Rect.unit (s := S32x16x512) ![k.val, 0, 0] S1x16x512.size (slot_inb k)) (fun _ => rfl)).squeeze S16x512 squeezes_S1x16x512_S16x512

/-- The partner of step `r` stands at distance `r + 1`: so is the slot and the semaphore of the step numbered. -/
def stepNo (r : Fin 31) : Fin 32 := ⟨r.val + 1, by omega⟩

/-- The rows of the sending buffer that device `c` sends at step `r`. -/
abbrev rowsM (c : Dev nD) (r : Fin 31) : Memref sig .tc .vmem S16x512 .bf16 :=
  sndM.slice (Rect.unit (s := S512x512) (k0_off1 c (BitVec.ofNat 32 (1 + r.val))) S16x512.size (k0_off1_inb c r)) (fun _ => rfl)

/-- The sending semaphore number `k`. -/
abbrev sndSem (k : Fin 32) : DmaSem sig :=
  ((cc0_scratch2.slice (Rect.unit (s := S32) ![k.val] S1.size (sem_inb k))).squeeze S_ squeezes_S1_S_).sem
/-- The receiving semaphore number `k`. -/
abbrev rcvSem (k : Fin 32) : DmaSem sig :=
  ((cc0_scratch3.slice (Rect.unit (s := S32) ![k.val] S1.size (sem_inb k))).squeeze S_ squeezes_S1_S_).sem

/-- The view of slot `k` covers whole words. -/
theorem slot_exact (k : Fin 32) : (slotM k).view.WordExact := ((Memref.isWhole_whole cc0_scratch1).wordExact_slice rfl _ (slot_words k)).reshape _ _
/-- The view of the rows sent at step `r` covers whole words. -/
theorem rows_exact (c : Dev nD) (r : Fin 31) : (rowsM c r).view.WordExact :=
  (Memref.isWhole_whole cc0_scratch0).wordExact_slice rfl _ (k0_off1_wordsbf16 c r)

/-! ## The partners -/

/-- The device at distance `r + 1` from `c`. -/
def peer (c : Dev nD) (r : Fin 31) : Dev nD := ⟨(c.val + r.val + 1) % 32, Nat.mod_lt _ (by decide)⟩

/-- The numbers the kernel computes for the devices it signals, -/
def sigNo : Fin 31 → Dev nD → Nat :=
  ![k0_dev1, k0_dev2, k0_dev3, k0_dev4, k0_dev5, k0_dev6, k0_dev7, k0_dev8, k0_dev9, k0_dev10, k0_dev11, k0_dev12, k0_dev13, k0_dev14, k0_dev15, k0_dev16, k0_dev17, k0_dev18, k0_dev19, k0_dev20, k0_dev21, k0_dev22, k0_dev23, k0_dev24, k0_dev25, k0_dev26, k0_dev27, k0_dev28, k0_dev29, k0_dev30, k0_dev31]
/-- and for those it sends to. -/
def sndNo : Fin 31 → Dev nD → Nat :=
  ![k0_dev32, k0_dev33, k0_dev34, k0_dev35, k0_dev36, k0_dev37, k0_dev38, k0_dev39, k0_dev40, k0_dev41, k0_dev42, k0_dev43, k0_dev44, k0_dev45, k0_dev46, k0_dev47, k0_dev48, k0_dev49, k0_dev50, k0_dev51, k0_dev52, k0_dev53, k0_dev54, k0_dev55, k0_dev56, k0_dev57, k0_dev58, k0_dev59, k0_dev60, k0_dev61, k0_dev62]

/-- The device signalled at step `r` is numbered `c + r + 1` modulo 32. -/
theorem sigNo_eq : ∀ (r : Fin 31) (c : Dev nD), sigNo r c = (c.val + r.val + 1) % 32 := by decide +kernel
/-- The device sent to at step `r` is numbered `c + r + 1` modulo 32. -/
theorem sndNo_eq : ∀ (r : Fin 31) (c : Dev nD), sndNo r c = (c.val + r.val + 1) % 32 := by decide +kernel

/-- The number signalled is a device's. -/
theorem sigNo_lt (r : Fin 31) (c : Dev nD) : sigNo r c < nD := by rw [sigNo_eq]; exact Nat.mod_lt _ (by decide)
/-- The number sent to is a device's. -/
theorem sndNo_lt (r : Fin 31) (c : Dev nD) : sndNo r c < nD := by rw [sndNo_eq]; exact Nat.mod_lt _ (by decide)

/-- The device signalled at step `r` is the partner of that step. -/
theorem sigDev_eq (c : Dev nD) (r : Fin 31) : (⟨sigNo r c, sigNo_lt r c⟩ : Dev nD) = peer c r := Fin.ext (sigNo_eq r c)
/-- The device sent to at step `r` is the partner of that step. -/
theorem sndDev_eq (c : Dev nD) (r : Fin 31) : (⟨sndNo r c, sndNo_lt r c⟩ : Dev nD) = peer c r := Fin.ext (sndNo_eq r c)

/-! ## The program -/

/-- The programs of a device. -/
abbrev Prg (F : FTy → Type) : Type _ := Prog (TpuEff nD τ sig (Elt F) Λ₀ .tc) PUnit

/-- One operation for each step of a list, in turn. -/
def each (e : Fin 31 → TpuEff nD τ sig (Elt F) Λ₀ .tc PUnit) : List (Fin 31) → Prg F → Prg F
  | [], k => k
  | r :: l, k => Prog.op (e r) fun _ => each e l k

/-- The thirty-one steps. -/
def steps : List (Fin 31) := [0, 1, 2, 3, 4, 5, 6, 7, 8, 9, 10, 11, 12, 13, 14, 15, 16, 17, 18, 19, 20, 21, 22, 23, 24, 25, 26, 27, 28, 29, 30]

/-- The barrier signal of step `r`. -/
def sigOp (c : Dev nD) (r : Fin 31) : TpuEff nD τ sig (Elt F) Λ₀ .tc PUnit :=
  .semSignal ((⟨sigNo r c, sigNo_lt r c⟩ : Dev nD) : Thread nD τ) barS (1#32).toInt
/-- The copy of step `r`: the partner's rows to its slot numbered by the step. -/
def sndOp (c : Dev nD) (r : Fin 31) : TpuEff nD τ sig (Elt F) Λ₀ .tc PUnit :=
  .enqueueDma (rowsM c r) (.remote (Dev.tc (⟨sndNo r c, sndNo_lt r c⟩ : Dev nD)) (slotM (stepNo r)) (.dma (sndSem (stepNo r)))) (.dma (rcvSem (stepNo r)))
    (rows_exact c r) (slot_exact (stepNo r)) ⟨⟨rfl, Or.inl rfl⟩, trivial⟩
/-- The wait for the block that arrives in the slot of step `r`. -/
def rcvWaitOp (c : Dev nD) (r : Fin 31) : TpuEff nD τ sig (Elt F) Λ₀ .tc PUnit :=
  .waitDma2 (rcvSem (stepNo r)) (rowsM c r) (slotM (stepNo r)) (rows_exact c r) (slot_exact (stepNo r))
/-- The wait for the copy of step `r` to have left. -/
def sndWaitOp (c : Dev nD) (r : Fin 31) : TpuEff nD τ sig (Elt F) Λ₀ .tc PUnit :=
  .waitDma2 (sndSem (stepNo r)) (slotM (stepNo r)) (rowsM c r) (slot_exact (stepNo r)) (rows_exact c r)

/-- All the activations. -/
abbrev rX : Rect S512x256 := Rect.unit (s := S512x256) ![0, 0] S512x256.size inb_S512x256_S512x256_0_0
/-- All the router's weights. -/
abbrev rRw : Rect S256x128 := Rect.unit (s := S256x128) ![0, 0] S256x128.size inb_S256x128_S256x128_0_0
/-- All the experts' numbers. -/
abbrev rIx : Rect S512x1 := Rect.unit (s := S512x1) ![0, 0] S512x1.size inb_S512x1_S512x1_0_0
/-- All the shared expert's matrix. -/
abbrev rSw : Rect S256x512 := Rect.unit (s := S256x512) ![0, 0] S256x512.size inb_S256x512_S256x512_0_0
/-- All the result's block. -/
abbrev rOut : Rect S16x512 := Rect.unit (s := S16x512) ![0, 0] S16x512.size inb_S16x512_S16x512_0_0
/-- All the sending buffer. -/
abbrev rSnd : Rect S512x512 := Rect.unit (s := S512x512) ![0, 0] S512x512.size inb_S512x512_S512x512_0_0
/-- The slots 1 to 31 of the receiving buffer. -/
abbrev rRcv : Rect S32x16x512 := Rect.unit (s := S32x16x512) ![1, 0, 0] S31x16x512.size inb_S32x16x512_S31x16x512_1_0_0
/-- Expert `e` lies inside the four matrices. -/
theorem exp_inb (e : Fin 4) : ∀ a : Fin 3, (![e.val, 0, 0] : Fin 3 → Nat) a + S1x256x512.size a ≤ S4x256x512.size a := by
  intro a
  match a with
  | 0 => show e.val + 1 ≤ 4; omega
  | 1 => show 0 + 256 ≤ 256; omega
  | 2 => show 0 + 512 ≤ 512; omega
/-- The matrix of the device's expert `e`. -/
abbrev rEw (e : Fin 4) : Rect S4x256x512 := Rect.unit (s := S4x256x512) ![e.val, 0, 0] S1x256x512.size (exp_inb e)
/-- The activations of the device's own rows. -/
abbrev rMine (c : Dev nD) : Rect S512x256 := Rect.unit (s := S512x256) (k0_off2 c) S16x256.size (k0_off2_inb c)
/-- The device's own rows of the sending buffer. -/
abbrev rOwn (c : Dev nD) : Rect S512x512 := Rect.unit (s := S512x512) (k0_off3 c) S16x512.size (k0_off3_inb c)

/-- The device's number as the kernel computes it. -/
def devWord (c : Dev nD) : BitVec 32 := Scalar.remsi (Scalar.divsi (Dev.word c) 1#32) 32#32

/-- The products of all rows with the device's experts, each gated: what the kernel stores for sending. -/
def gated (c : Dev nD) (x : Vec F S512x256 .bf16) (rw : Vec F S256x128 .bf16) (ix : Vec F S512x1 .i32) (x' : Vec F S512x256 .bf16)
    (w : Fin 4 → Vec F S1x256x512 .bf16) : FVec F S512x512 .bf16 :=
  k0_pay7 (devWord c) (k0_pay2 ix) (k0_pay3 x rw ix) (k0_pay4 x')
    (k0_pay6 (devWord c) (k0_pay2 ix) (k0_pay3 x rw ix) (k0_pay4 x') k0_pay5 (w 0) (w 1) (w 2)) (w 3)

/-- From the receiving waits to the end. -/
def bodyEnd (c : Dev nD) (v580 : Vec F S16x256 .bf16) (v582 : Vec F S256x512 .bf16) (v587 : Vec F S16x512 .bf16) : Prg F :=
  each (rcvWaitOp c) steps <| each (sndWaitOp c) steps <|
  Prog.op (.load rcvM rRcv.toLoadRect (View.loadsAt_vmem h_S31x16x512)) fun v961 =>
  Prog.op (.load outM rOut.toLoadRect (View.loadsAt_vmem h_S16x512)) fun _ =>
  Prog.op (.store outM rOut (k0_pay1 (k0_pay8 v580 v582) (k0_pay9 v587) v961) Finset.univ (View.stores_vmem_bits_univ h_S16x512 rfl) (.inl rfl)) fun _ =>
  Prog.ret ⟨⟩

/-- From the transfers to the receiving waits. -/
def bodySend (c : Dev nD) : Prg F :=
  each (sndOp c) steps <|
  Prog.op (.load xM (rMine c).toLoadRect (View.loadsAt_vmem h_S16x256)) fun v580 =>
  Prog.op (.load swM rSw.toLoadRect (View.loadsAt_vmem h_S256x512)) fun v582 =>
  Prog.op (.load sndM (rOwn c).toLoadRect (View.loadsAt_vmem h_S16x512)) fun v587 =>
  bodyEnd c v580 v582 v587

/-- The gated products: from the barrier's wait to the transfers. -/
def bodyExperts (c : Dev nD) : Prg F :=
  Prog.op (.load xM rX.toLoadRect (View.loadsAt_vmem h_S512x256)) fun v128 =>
  Prog.op (.load rwM rRw.toLoadRect (View.loadsAt_vmem h_S256x128)) fun v130 =>
  Prog.op (.load ixM rIx.toLoadRect (View.loadsAt_vmem h_S512x1)) fun v142 =>
  Prog.op (.load xM rX.toLoadRect (View.loadsAt_vmem h_S512x256)) fun v151 =>
  Prog.op (.load ewM (rEw 0).toLoadRect (View.loadsAt_vmem h_S1x256x512)) fun v154 =>
  Prog.op (.load ewM (rEw 1).toLoadRect (View.loadsAt_vmem h_S1x256x512)) fun v166 =>
  Prog.op (.load ewM (rEw 2).toLoadRect (View.loadsAt_vmem h_S1x256x512)) fun v178 =>
  Prog.op (.load ewM (rEw 3).toLoadRect (View.loadsAt_vmem h_S1x256x512)) fun v190 =>
  Prog.op (.load sndM rSnd.toLoadRect (View.loadsAt_vmem h_S512x512)) fun _ =>
  Prog.op (.store sndM rSnd (gated c v128 v130 v142 v151 ![v154, v166, v178, v190]) Finset.univ
    (View.stores_vmem h_S512x512 ((Memref.isWhole_whole cc0_scratch0).storeExact_slice rfl _ packedbf16_S512x512_S512x512_0_0) (fun _ => rfl)) (.inl rfl)) fun _ =>
  bodySend c

/-- The whole body. -/
def bodyAll : Prg F :=
  .op .deviceId fun c => each (sigOp c) steps <| Prog.op (.semWait barS (31#32).toInt) fun _ => bodyExperts c

/-- The printed body is this program. -/
theorem body_eq : cc0_body (F := F) xM (Memref.isWhole_whole _) rwM (Memref.isWhole_whole _) ixM (Memref.isWhole_whole _) ewM (Memref.isWhole_whole _)
    swM (Memref.isWhole_whole _) outM (Memref.isWhole_whole _) sndM (Memref.isWhole_whole _) rcvM (Memref.isWhole_whole _) cc0_scratch2 cc0_scratch3 = bodyAll := rfl

end Cert.K
end
-- ==== Proof.Blocks.lean ====
/-
The sending buffer cut into thirty-two blocks of sixteen rows, one for each device, and the receiving buffer cut into its thirty-two
slots; what a device's slots hold once every partner's transfer has landed.
-/
module

public import proofs.«01_k».proof.Proof.Body
public import Idealize.ShloMosaic.Lib.Ring
public import Idealize.ShloMosaic.Lib.ValueLayout

@[expose] public section

set_option maxRecDepth 16384

noncomputable section

namespace Cert.K

open Cert.KernelIdeal Cert.KernelIdeal.Gen
open Idealize.ShloMosaic Idealize.ShloMosaic.TcCoe Idealize.SL.Sem
open Idealize.ShloMosaic.ValueIdx (ix2 ix3 eq_ix2)

variable {F : FTy → Type} [FloatOps F]

/-- Contents of the sending buffer, -/
abbrev SndC (F : FTy → Type) : Type := (cc0_scratch0 : Ref sig .tc).ty.Contents (Elt F)
/-- and of the receiving buffer. -/
abbrev RcvC (F : FTy → Type) : Type := (cc0_scratch1 : Ref sig .tc).ty.Contents (Elt F)

/-- The rows meant for device `d`. -/
def rowBlk (d : Fin 32) : Finset S512x512.Idx := Finset.univ.filter fun i => (i 0).val / 16 = d.val
/-- Slot `k`. -/
def slotBlk (k : Fin 32) : Finset S32x16x512.Idx := Finset.univ.filter fun i => (i 0).val = k.val

/-- An index lies in the block of rows of device `d` exactly if its row divided by 16 is `d`. -/
theorem mem_rowBlk {d : Fin 32} {i : S512x512.Idx} : i ∈ rowBlk d ↔ (i 0).val / 16 = d.val := by simp [rowBlk]
/-- An index lies in slot `k` exactly if its first coordinate is `k`. -/
theorem mem_slotBlk {k : Fin 32} {i : S32x16x512.Idx} : i ∈ slotBlk k ↔ (i 0).val = k.val := by simp [slotBlk]

/-- The blocks of rows of two different devices have no index in common. -/
theorem rowBlk_disj (d d' : Fin 32) (h : d ≠ d') : Disjoint (rowBlk d) (rowBlk d') :=
  Finset.disjoint_left.2 fun i hi hi' => h (Fin.ext ((mem_rowBlk.1 hi).symm.trans (mem_rowBlk.1 hi')))
/-- Two different slots have no index in common. -/
theorem slotBlk_disj (k k' : Fin 32) (h : k ≠ k') : Disjoint (slotBlk k) (slotBlk k') :=
  Finset.disjoint_left.2 fun i hi hi' => h (Fin.ext ((mem_slotBlk.1 hi).symm.trans (mem_slotBlk.1 hi')))

/-- The 32 blocks of rows together are the whole sending buffer. -/
theorem rowBlk_cover : (Finset.univ : Finset (Fin 32)).biUnion rowBlk = Finset.univ := by
  refine Finset.eq_univ_of_forall fun i => Finset.mem_biUnion.2 ⟨⟨(i 0).val / 16, ?_⟩, Finset.mem_univ _, mem_rowBlk.2 rfl⟩
  have h : (i 0).val < 512 := (i 0).isLt
  omega
/-- The 32 slots together are the whole receiving buffer. -/
theorem slotBlk_cover : (Finset.univ : Finset (Fin 32)).biUnion slotBlk = Finset.univ :=
  Finset.eq_univ_of_forall fun i => Finset.mem_biUnion.2 ⟨⟨(i 0).val, (i 0).isLt⟩, Finset.mem_univ _, mem_slotBlk.2 rfl⟩

/-- What step `r` sends is the block of the partner, -/
theorem rows_set (c : Dev nD) (r : Fin 31) : (rowsM c r).view.set = rowBlk (peer c r) := by
  refine (View.set_slice_whole cc0_scratch0 _).trans (Finset.ext fun i => ?_)
  rw [Rect.mem_set_unit, mem_rowBlk, k0_off1_eq]
  have h1 : (i 1).val < 512 := (i 1).isLt
  have hp : (peer c r).val = (c.val + r.val + 1) % 32 := rfl
  constructor
  · intro h
    have h0 := h 0
    simp only [Matrix.cons_val_zero] at h0
    have h0 : 16 * ((c.val + r.val + 1) % 32) ≤ (i 0).val ∧ (i 0).val < 16 * ((c.val + r.val + 1) % 32) + 16 := h0
    omega
  · intro h a
    match a with
    | 0 =>
      show 16 * ((c.val + r.val + 1) % 32) ≤ (i 0).val ∧ (i 0).val < 16 * ((c.val + r.val + 1) % 32) + 16
      omega
    | 1 => exact ⟨Nat.zero_le _, by show (i 1).val < 0 + 512; omega⟩

/-- and the view of slot `k` is the slot. -/
theorem slot_set (k : Fin 32) : (slotM k).view.set = slotBlk k := by
  refine ((View.set_reshape _ _).trans (View.set_slice_whole cc0_scratch1 _)).trans (Finset.ext fun i => ?_)
  rw [Rect.mem_set_unit, mem_slotBlk]
  have h1 : (i 1).val < 16 := (i 1).isLt
  have h2 : (i 2).val < 512 := (i 2).isLt
  constructor
  · intro h
    have h0 : k.val ≤ (i 0).val ∧ (i 0).val < k.val + 1 := h 0
    omega
  · intro h a
    match a with
    | 0 => show k.val ≤ (i 0).val ∧ (i 0).val < k.val + 1; omega
    | 1 => exact ⟨Nat.zero_le _, by show (i 1).val < 0 + 16; omega⟩
    | 2 => exact ⟨Nat.zero_le _, by show (i 2).val < 0 + 512; omega⟩

/-- A device's own rows lie in its own block. -/
theorem own_subset (c : Dev nD) : (rOwn c).set ⊆ rowBlk c := by
  intro i hi
  rw [Rect.mem_set_unit] at hi
  rw [mem_rowBlk]
  have h0 := hi 0
  rw [k0_off3_eq] at h0
  have h0 : 16 * c.val ≤ (i 0).val ∧ (i 0).val < 16 * c.val + 16 := h0
  omega

/-- The device that fills slot `k` of device `d`. -/
def source (d : Dev nD) (k : Fin 32) : Dev nD := ⟨(d.val + (32 - k.val)) % 32, Nat.mod_lt _ (by decide)⟩

/-- The partner of step `r` has `c` as the source of its slot numbered by that step. -/
theorem source_peer (c : Dev nD) (r : Fin 31) : source (peer c r) (stepNo r) = c := by
  refine Fin.ext ?_
  show ((c.val + r.val + 1) % 32 + (32 - (r.val + 1))) % 32 = c.val
  have hc : c.val < 32 := c.isLt
  omega

/-- Row `i` of the block of device `d`. -/
def rowAt (d : Fin 32) (i : Fin 16) : Fin 512 := ⟨16 * d.val + i.val, by omega⟩

/-- Device `d`'s receiving buffer with every slot filled: slot `k` holds, of the sending buffer `S` of the device at distance `k`
    before it, the rows meant for `d`. -/
def recvBuf (S : Dev nD → SndC F) (d : Dev nD) : RcvC F :=
  fun i : S32x16x512.Idx => S (source d (i 0)) (ix2 (rowAt d (i 1)) (i 2))

/-- The transfer of step `r` leaves in the slot what `recvBuf` says. -/
theorem landed (S : Dev nD → SndC F) (c : Dev nD) (r : Fin 31) (fd : RcvC F) (i : S32x16x512.Idx) (hi : i ∈ slotBlk (stepNo r)) :
    (slotM (stepNo r)).view.write (Elt F) fd ((rowsM c r).view.read (Elt F) (S c)) Finset.univ i = recvBuf S (peer c r) i := by
  rw [← slot_set] at hi
  obtain ⟨x, -, rfl⟩ := Finset.mem_map.1 hi
  rw [View.write_emb_of_mem _ _ (Finset.mem_univ x), View.read_apply]
  have hx : (slotM (stepNo r)).view.emb x = ix3 (stepNo r) (x 0) (x 1) := by
    show (Rect.unit (s := S32x16x512) ![(stepNo r).val, 0, 0] S1x16x512.size (slot_inb (stepNo r))).emb (Shape.reshapeEquiv _ x) = _
    refine (congrArg _ ((congrArg _ (eq_ix2 x)).trans (ValueIdx.reshapeEquiv_ix2_1ab _ _ _))).trans ?_
    funext a
    apply Fin.ext
    match a with
    | 0 => show (stepNo r).val + 1 * 0 = (stepNo r).val; omega
    | 1 => show 0 + 1 * (x 0).val = (x 0).val; omega
    | 2 => show 0 + 1 * (x 1).val = (x 1).val; omega
  have hy : (rowsM c r).view.emb x = ix2 (rowAt (peer c r) (x 0)) (x 1) := by
    have ho := k0_off1_eq c r
    funext a
    apply Fin.ext
    match a with
    | 0 =>
      show k0_off1 c (BitVec.ofNat 32 (1 + r.val)) 0 + 1 * (x 0).val = 16 * ((c.val + r.val + 1) % 32) + (x 0).val
      rw [ho]
      show 16 * ((c.val + r.val + 1) % 32) + 1 * (x 0).val = _
      omega
    | 1 =>
      show k0_off1 c (BitVec.ofNat 32 (1 + r.val)) 1 + 1 * (x 1).val = (x 1).val
      rw [ho]
      show 0 + 1 * (x 1).val = _
      omega
  rw [hx, hy]
  show S c (ix2 (rowAt (peer c r) (x 0)) (x 1)) = S (source (peer c r) (stepNo r)) (ix2 (rowAt (peer c r) (x 0)) (x 1))
  rw [source_peer]

end Cert.K
end
-- ==== Proof.Sched.lean ====
/-
The exchange as a schedule of one round. A device's barrier cell is paid by its thirty-one partners, one unit each, and each hands
over the slot of its own receiving buffer that the device will fill; a receiving cell is paid by the transfer into its slot and hands
over the filled slot; a sending cell hands the sent rows back.
-/
module

public import proofs.«01_k».proof.Proof.Blocks

@[expose] public section

set_option maxRecDepth 16384

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's, and the exchange's with duties named by steps -/

/-- The exchange's ghost state. -/
abbrev UX : Type := URounds (GSem nD τ sig) (Fin 31)
/-- The whole ghost state. -/
abbrev UU : Type := UR sig nD τ × UX

local notation "𝕄" => MT nD τ sig Unit (Elt F) ℕ UU ℕ

/-- The pipeline's part of it. -/
abbrev EP : Emb (UR sig nD τ) (MT nD τ sig Unit (Elt F) ℕ UU ℕ) := embL
/-- The exchange's part of it. -/
abbrev EX : Emb UX (MT nD τ sig Unit (Elt F) ℕ UU ℕ) := embR

/-! ## The cells -/

/-- The kernel's own semaphores: the sending ones (`false`) and the receiving ones (`true`). -/
abbrev Own : Type := Bool × Fin 32
/-- Those and the barrier semaphore. -/
abbrev Key : Type := Unit ⊕ Own

/-- The semaphore of a key among the kernel's own. -/
def osem : Own → SemLoc sig := fun k => if k.1 then .dma (rcvSem k.2) else .dma (sndSem k.2)
/-- The semaphore of a key. -/
def csem : Key → SemLoc sig := Sum.elim (fun _ => .reg barS) osem

/-- The barrier's cell on device `c`. -/
abbrev barCell (c : Dev nD) : GSem nD τ sig := ((c : Thread nD τ), .reg barS)
/-- The cell of sending semaphore `k` on device `c`. -/
abbrev sndCell (c : Dev nD) (k : Fin 32) : GSem nD τ sig := ((c : Thread nD τ), .dma (sndSem k))
/-- The cell of receiving semaphore `k` on device `c`. -/
abbrev rcvCell (c : Dev nD) (k : Fin 32) : GSem nD τ sig := ((c : Thread nD τ), .dma (rcvSem k))
/-- The cell of a device and a key. -/
abbrev cellAt (ck : Dev nD × Key) : GSem nD τ sig := ((ck.1 : Thread nD τ), csem ck.2)

/-- The barrier's key. -/
abbrev barKey : Key := .inl ()
/-- The key of sending semaphore `k`. -/
abbrev sndKey (k : Fin 32) : Key := .inr (false, k)
/-- The key of receiving semaphore `k`. -/
abbrev rcvKey (k : Fin 32) : Key := .inr (true, k)

/-- The sending semaphores are numbered from 6. -/
theorem sndSem_val : ∀ k : Fin 32, (sndSem k).val = 6 + k.val := by decide
/-- The receiving semaphores are numbered from 38. -/
theorem rcvSem_val : ∀ k : Fin 32, (rcvSem k).val = 38 + k.val := by decide

/-! ## The partners -/

/-- The number of step `r` is `r + 1`. -/
theorem stepNo_val (r : Fin 31) : (stepNo r).val = r.val + 1 := rfl

/-- The device at distance `k`. -/
def shift (c : Dev nD) (k : Fin 32) : Dev nD := ⟨(c.val + k.val) % 32, Nat.mod_lt _ (by decide)⟩
/-- The device at the distance of step `r` is the partner of that step. -/
theorem shift_step (c : Dev nD) (r : Fin 31) : shift c (stepNo r) = peer c r := rfl

/-- The partner of the partner, at the complementary distance, is the device itself. -/
theorem peer_rev (c : Dev nD) (r : Fin 31) : peer (peer c r) (Fin.rev r) = c := by
  refine Fin.ext ?_
  show ((c.val + r.val + 1) % 32 + (Fin.rev r).val + 1) % 32 = c.val
  rw [Fin.val_rev]
  have hc : c.val < 32 := c.isLt
  omega

/-! ## The contents handed over -/

/-- The bytes of one block of rows, as the transfers credit them. -/
abbrev N : ℕ := (slotM 0).view.dmaCredit
/-- A block is credited with some bytes. -/
theorem N_pos : 0 < N := View.dmaCredit_pos _ (by decide)
/-- A slot is credited with the bytes of a block. -/
theorem N_slot (k : Fin 32) : (slotM k).view.dmaCredit = N := rfl
/-- The rows sent at a step are credited with the bytes of a block. -/
theorem N_rows (c : Dev nD) (r : Fin 31) : (rowsM c r).view.dmaCredit = N := rfl

/-- Device `c`'s slot `k`, at contents `f`. -/
def slotPts (c : Dev nD) (k : Fin 32) (f : RcvC F) : sProp 𝕄 := (c : Thread nD τ).loc cc0_scratch1 ↦[slotBlk k]{fullShare} f
/-- Device `c`'s rows for device `d`, at contents `f`. -/
def rowPts (c d : Dev nD) (f : SndC F) : sProp 𝕄 := (c : Thread nD τ).loc cc0_scratch0 ↦[rowBlk d]{fullShare} f

/-- A slot may be kept in a cell's invariant. -/
instance slotPts_storable (c : Dev nD) (k : Fin 32) (f : RcvC F) : BI.Storable (upEmb : UEmb _ 𝕄) (slotPts (F := F) c k f) := by
  unfold slotPts; infer_instance
/-- A block of rows may be kept in a cell's invariant. -/
instance rowPts_storable (c d : Dev nD) (f : SndC F) : BI.Storable (upEmb : UEmb _ 𝕄) (rowPts (F := F) c d f) := by
  unfold rowPts; infer_instance

/-! ## The schedule -/

variable (S : Dev nD → SndC F)

/-- Duty `r` of `c`'s barrier: the partner's slot that `c` fills at step `r`. -/
def barPay (c : Dev nD) (r : Fin 31) : sProp 𝕄 := iprop(∃ f, slotPts (peer c r) (stepNo r) f)
/-- What the sending semaphore `k` gives back: the rows sent. -/
def sndPay (c : Dev nD) (k : Fin 32) : sProp 𝕄 := rowPts c (shift c k) (S c)
/-- What the receiving semaphore `k` hands over: the slot, filled. -/
def rcvPay (c : Dev nD) (k : Fin 32) : sProp 𝕄 := slotPts c k (recvBuf S c)

/-- The duties of a semaphore: 31 on the barrier, one on each semaphore of a step, none on the two numbered 0. -/
def dutiesOf : SemLoc sig → Finset (Fin 31)
  | .reg _ => Finset.univ
  | .dma q => if (7 ≤ q.val ∧ q.val < 38) ∨ 39 ≤ q.val then {0} else ∅
/-- What one duty adds to a semaphore. -/
def amountOf : SemLoc sig → ℕ
  | .reg _ => 1
  | .dma _ => N
/-- What a duty hands over. -/
def payOf (c : Dev nD) (d : Fin 31) : SemLoc sig → sProp 𝕄
  | .reg _ => barPay c d
  | .dma q => if q.val < 38 then sndPay S c ⟨(q.val - 6) % 32, Nat.mod_lt _ (by decide)⟩ else rcvPay S c ⟨(q.val - 38) % 32, Nat.mod_lt _ (by decide)⟩

/-- A duty adds something. -/
theorem amountOf_pos (s : SemLoc sig) : 0 < amountOf s := by
  cases s with
  | reg _ => exact Nat.one_pos
  | dma _ => exact N_pos

/-- The schedule of the exchange, the sending buffers holding `S`. -/
def sched : Rounds.Schedule (GSem nD τ sig) (Fin 31) 𝕄 where
  duties g r := if r = 0 ∧ g.1.2 = .tc then dutiesOf g.2 else ∅
  unitless _ := False
  amount g _ _ := amountOf g.2
  payload g _ d := payOf S g.1.1 d g.2
  amount_pos g _ _ _ := amountOf_pos g.2

/-- What is handed over may be kept in a cell's invariant. -/
instance sched_storable (g : GSem nD τ sig) (r : ℕ) (d : Fin 31) : BI.Storable (upEmb : UEmb _ 𝕄) ((sched (F := F) S).payload g r d) := by
  show BI.Storable upEmb (payOf S g.1.1 d g.2)
  cases g.2 with
  | reg _ => unfold payOf barPay; infer_instance
  | dma q => unfold payOf sndPay rcvPay; dsimp only; split <;> infer_instance

/-- The duties of round 0. -/
theorem duties_zero (c : Dev nD) (s : SemLoc sig) : (sched (F := F) S).duties ((c : Thread nD τ), s) 0 = dutiesOf s := by
  dsimp only [sched]; exact if_pos ⟨rfl, rfl⟩
/-- No later round has a duty. -/
theorem duties_later (g : GSem nD τ sig) (r : ℕ) (h : 1 ≤ r) : (sched (F := F) S).duties g r = ∅ := if_neg fun h' => by omega

/-- The sending semaphore of a step has one duty. -/
theorem dutiesOf_snd (r : Fin 31) : dutiesOf (.dma (sndSem (stepNo r))) = {0} :=
  if_pos (Or.inl (by rw [sndSem_val, stepNo_val]; have := r.isLt; omega))
/-- The receiving semaphore of a step has one duty. -/
theorem dutiesOf_rcv (r : Fin 31) : dutiesOf (.dma (rcvSem (stepNo r))) = {0} :=
  if_pos (Or.inr (by rw [rcvSem_val, stepNo_val]; omega))

/-- The semaphores numbered 0 take no part. -/
theorem duties_idle (c : Dev nD) (b : Bool) (r : ℕ) (h : 0 ≤ r) : (sched (F := F) S).duties (cellAt (c, .inr (b, 0))) r = ∅ := by
  cases r with
  | zero => rw [duties_zero]; cases b <;> rfl
  | succ r => exact duties_later S _ _ (by omega)

/-- A sending semaphore hands over the rows sent. -/
theorem payOf_snd (c : Dev nD) (d : Fin 31) (k : Fin 32) : payOf S c d (.dma (sndSem k)) = (sndPay S c k : sProp 𝕄) := by
  have hv := sndSem_val k
  have hk := k.isLt
  unfold payOf
  dsimp only
  rw [if_pos (by omega)]
  exact congrArg _ (Fin.ext (by show ((sndSem k).val - 6) % 32 = k.val; omega))
/-- A receiving semaphore hands over the slot filled. -/
theorem payOf_rcv (c : Dev nD) (d : Fin 31) (k : Fin 32) : payOf S c d (.dma (rcvSem k)) = (rcvPay S c k : sProp 𝕄) := by
  have hv := rcvSem_val k
  have hk := k.isLt
  unfold payOf
  dsimp only
  rw [if_neg (by omega)]
  exact congrArg _ (Fin.ext (by show ((rcvSem k).val - 38) % 32 = k.val; omega))

/-- A copy adds the bytes of a block. -/
theorem amount_dma (c : Dev nD) (q : DmaSem sig) (d : Fin 31) : (sched (F := F) S).amount ((c : Thread nD τ), .dma q) 0 d = N := by
  dsimp only [sched, amountOf]

/-- The barrier's round brings 31 units. -/
theorem expect_bar (c : Dev nD) : (sched (F := F) S).expect (barCell c) 0 = 31 := by
  show ∑ d ∈ (sched (F := F) S).duties (barCell c) 0, 1 = 31
  rw [duties_zero]; rfl
/-- The round of a sending semaphore brings one block. -/
theorem expect_snd (c : Dev nD) (r : Fin 31) : (sched (F := F) S).expect (sndCell c (stepNo r)) 0 = N := by
  show ∑ d ∈ (sched (F := F) S).duties (sndCell c (stepNo r)) 0, N = N
  rw [duties_zero, dutiesOf_snd, Finset.sum_singleton]
/-- The round of a receiving semaphore brings one block. -/
theorem expect_rcv (c : Dev nD) (r : Fin 31) : (sched (F := F) S).expect (rcvCell c (stepNo r)) 0 = N := by
  show ∑ d ∈ (sched (F := F) S).duties (rcvCell c (stepNo r)) 0, N = N
  rw [duties_zero, dutiesOf_rcv, Finset.sum_singleton]

/-! ## What a device owes -/

/-- The barrier units a device owes at the steps of a list, -/
def owedBar (c : Dev nD) (l : List (Fin 31)) : CellTallies nD τ sig Unit := (l.map fun r => tallyAt (barCell (peer c r)) () 1).sum
/-- and the bytes. -/
def owedRcv (c : Dev nD) (l : List (Fin 31)) : CellTallies nD τ sig Unit := (l.map fun r => tallyAt (rcvCell (peer c r) (stepNo r)) () N).sum
/-- At launch: everything. -/
def owed₀ (c : Dev nD) : CellTallies nD τ sig Unit := owedRcv c steps + owedBar c steps

/-- The units owed at a list of steps: those of the first and those of the others. -/
theorem owedBar_cons (c : Dev nD) (r : Fin 31) (l : List (Fin 31)) : owedBar c (r :: l) = tallyAt (barCell (peer c r)) () 1 + owedBar c l := by
  unfold owedBar; rw [List.map_cons, List.sum_cons]
/-- The bytes owed at a list of steps: those of the first and those of the others. -/
theorem owedRcv_cons (c : Dev nD) (r : Fin 31) (l : List (Fin 31)) :
    owedRcv c (r :: l) = tallyAt (rcvCell (peer c r) (stepNo r)) () N + owedRcv c l := by
  unfold owedRcv; rw [List.map_cons, List.sum_cons]
/-- At no step no unit is owed, -/
theorem owedBar_nil (c : Dev nD) : owedBar c [] = 0 := rfl
/-- and no byte. -/
theorem owedRcv_nil (c : Dev nD) : owedRcv c [] = 0 := rfl

/-- Something owed at one cell is owed only there. -/
theorem tally_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

/-- A signal is owed only at the barriers of partners. -/
theorem owedBar_pos {c : Dev nD} {l : List (Fin 31)} {g : GSem nD τ sig} {u : Unit} (h : 0 < owedBar c l g u) : ∃ r, g = barCell (peer c r) := by
  induction l with
  | nil => exact absurd h (Nat.lt_irrefl 0)
  | cons r l ih =>
    rw [owedBar_cons, Pi.add_apply, Finsupp.add_apply] at h
    rcases Nat.eq_zero_or_pos ((tallyAt (barCell (peer c r)) () 1 : CellTallies nD τ sig Unit) g u) with h0 | h0
    · rw [h0, Nat.zero_add] at h; exact ih h
    · exact ⟨r, tally_pos h0⟩
/-- A copy is owed only at the receiving semaphores of partners. -/
theorem owedRcv_pos {c : Dev nD} {l : List (Fin 31)} {g : GSem nD τ sig} {u : Unit} (h : 0 < owedRcv c l g u) :
    ∃ r, g = rcvCell (peer c r) (stepNo r) := by
  induction l with
  | nil => exact absurd h (Nat.lt_irrefl 0)
  | cons r l ih =>
    rw [owedRcv_cons, Pi.add_apply, Finsupp.add_apply] at h
    rcases Nat.eq_zero_or_pos ((tallyAt (rcvCell (peer c r) (stepNo r)) () N : CellTallies nD τ sig Unit) g u) with h0 | h0
    · rw [h0, Nat.zero_add] at h; exact ih h
    · exact ⟨r, tally_pos h0⟩

/-! ## The levels: staging and sending cells below the barrier cells, those below the receiving cells -/

/-- The semaphores that have a level: those of the devices' own threads. -/
def L (g : GSem nD τ sig) : Finset Unit := if g.1.2 = .tc then {()} else ∅
/-- The level of a semaphore. -/
def lvOf : SemLoc sig → ℕ
  | .reg _ => 1
  | .dma q => if 38 ≤ q.val then 2 else 0
/-- The level of a cell. -/
def lv (g : GSem nD τ sig) (_ : Unit) : ℕ := lvOf g.2

/-- No other thread's semaphore has a level. -/
theorem L_of_ne (g : GSem nD τ sig) (h : g.1.2 ≠ .tc) : L g = ∅ := if_neg h
/-- Every semaphore of a device's own thread has one. -/
theorem L_tc (c : Dev nD) (s : SemLoc sig) (u : Unit) : u ∈ L ((c : Thread nD τ), s) := by
  rw [show L ((c : Thread nD τ), s) = {()} from if_pos rfl]; exact Finset.mem_singleton_self _

/-- The receiving semaphores are at level 2. -/
theorem lv_rcv (c : Dev nD) (k : Fin 32) (u : Unit) : lv (rcvCell c k) u = 2 := if_pos (by rw [rcvSem_val]; omega)
/-- The barrier is at level 1. -/
theorem lv_bar (c : Dev nD) (u : Unit) : lv (barCell c) u = 1 := rfl

/-- A wait on a semaphore of level 0 is allowed with everything owed. -/
theorem mayWait_low (c : Dev nD) (s : SemLoc sig) (hs : lvOf s = 0) : (levAts L lv : sProp 𝕄) ⊢ MayWait (c : Thread nD τ) s () (owed₀ c) := by
  have hpos : ∀ (g : GSem nD τ sig) (u : Unit), 0 < owed₀ c g u → (∃ r, g = barCell (peer c r)) ∨ ∃ r, g = rcvCell (peer c r) (stepNo r) := by
    intro g u h
    unfold owed₀ at h
    rw [Pi.add_apply, Finsupp.add_apply] at h
    rcases Nat.eq_zero_or_pos (owedRcv c steps g u) with h0 | h0
    · rw [h0, Nat.zero_add] at h; exact Or.inl (owedBar_pos h)
    · exact Or.inr (owedRcv_pos h0)
  refine MayOwe.of_cut (L := L) (lev := lv) 0 (fun p hp => by rw [Finset.mem_singleton.mp hp]; exact L_tc c s ()) (fun g u hg => ?_)
    (fun p hp => by rw [Finset.mem_singleton.mp hp]; exact le_of_eq hs) (fun g u hg => ?_)
  · rcases hpos g u hg with ⟨r, rfl⟩ | ⟨r, rfl⟩ <;> exact L_tc _ _ _
  · rcases hpos g u hg with ⟨r, rfl⟩ | ⟨r, rfl⟩
    · rw [lv_bar]; decide
    · rw [lv_rcv]; decide

/-- The barrier's wait is allowed while the transfers are owed. -/
theorem mayWait_bar (c : Dev nD) (l : List (Fin 31)) : (levAts L lv : sProp 𝕄) ⊢ MayWait (c : Thread nD τ) (.reg barS) () (owedRcv c l) := by
  refine MayOwe.of_cut (L := L) (lev := lv) 1 (fun p hp => by rw [Finset.mem_singleton.mp hp]; exact L_tc c _ ()) (fun g u hg => ?_)
    (fun p hp => by rw [Finset.mem_singleton.mp hp]; exact le_refl 1) (fun g u hg => ?_)
  · obtain ⟨r, rfl⟩ := owedRcv_pos hg; exact L_tc _ _ _
  · obtain ⟨r, rfl⟩ := owedRcv_pos hg; rw [lv_rcv]; decide

/-! ## The records every device holds: the cells' invariants, and that round 0 is reached -/

variable (K : Dev nD × Key → ℕ)

/-- The records. -/
def records : sProp 𝕄 :=
  iprop((bigSep Finset.univ fun ck : Dev nD × Key => cellInv EX (sched S) (K ck) (cellAt ck))
    ∗ bigSep Finset.univ fun ck : Dev nD × Key => reached EX (cellAt ck) 0)

/-- The records may be used again and again. -/
instance records_persistent : BI.Persistent (records S K) := by unfold records; infer_instance

/-- Each cell's invariant is among the records, -/
theorem records_inv (ck : Dev nD × Key) : records S K ⊢ (cellInv EX (sched S) (K ck) (cellAt ck) : sProp 𝕄) := by
  have h : (bigSep Finset.univ fun ck : Dev nD × Key => (cellInv EX (sched S) (K ck) (cellAt ck) : sProp 𝕄)) ⊢ cellInv EX (sched S) (K ck) (cellAt ck) :=
    bigSep_elim (Finset.mem_univ ck)
  unfold records
  iintro ⟨H, -⟩
  iapply h; iexact H
/-- and so is its having reached round 0. -/
theorem records_reached (ck : Dev nD × Key) : records S K ⊢ (reached EX (cellAt ck) 0 : sProp 𝕄) := by
  have h : (bigSep Finset.univ fun ck : Dev nD × Key => (reached EX (cellAt ck) 0 : sProp 𝕄)) ⊢ reached EX (cellAt ck) 0 :=
    bigSep_elim (Finset.mem_univ ck)
  unfold records
  iintro ⟨-, H⟩
  iapply h; iexact H

end Cert.K
end
-- ==== Proof.Steps.lean ====
/-
The four kinds of step (a signal, a transfer, a wait for a block's arrival, a wait for a block's departure), each proved once at a
symbolic step, and the runs of thirty-one of them.
-/
module

public import proofs.«01_k».proof.Proof.Sched
public import Idealize.ShloMosaic.Lib.Pipeline.BigSepL

@[expose] public section

set_option maxRecDepth 16384

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop of the body needs a variant. -/
abbrev 𝒱₀ : Variants := Variants.none

variable (S : Dev nD → SndC F) (K : Dev nD × Key → ℕ)

/-- Running a program on device `c`. -/
abbrev runs (Kt : PUnit.{1} → sProp 𝕄) (c : Dev nD) (p : Prg F) : sProp 𝕄 := wp frame (wpE (defs₀ (F := F)) 𝒱₀ (c : Thread nD τ) none) Set.univ p Kt

/-- A run of like steps: each takes its own resources `P r` to `Q r`, and the shared state `J` of the steps to come goes along. -/
theorem runs_each (Kt : PUnit.{1} → sProp 𝕄) (c : Dev nD) (e : Fin 31 → TpuEff nD τ sig (Elt F) Λ₀ .tc PUnit) (R : sProp 𝕄) [BI.Persistent R] (P Q : Fin 31 → sProp 𝕄)
    (J : List (Fin 31) → sProp 𝕄)
    (hstep : ∀ (r : Fin 31) (l : List (Fin 31)) (k : Prg F),
      iprop(R ∗ P r ∗ J (r :: l)) ⊢ iprop((iprop(Q r ∗ J l) -∗ runs (F := F) Kt c k) -∗ runs (F := F) Kt c (Prog.op (e r) fun _ => k)))
    (k : Prg F) (l : List (Fin 31)) :
    iprop(R ∗ bigSepL l P ∗ J l) ⊢ iprop((iprop(bigSepL l Q ∗ J []) -∗ runs (F := F) Kt c k) -∗ runs (F := F) Kt c (each e l k)) := by
  induction l with
  | nil =>
    iintro ⟨-, HP, HJ⟩ Hk
    iapply Hk
    isplitl [HP]; · iexact HP
    iexact HJ
  | cons r l ih =>
    rw [bigSepL_cons', bigSepL_cons']
    iintro ⟨#HR, ⟨HP, HPs⟩, HJ⟩ Hk
    iapply (hstep r l (each e l k)) $$ [HP HJ]
    · isplitr; · iexact HR
      isplitl [HP] <;> iassumption
    iintro ⟨HQ, HJ⟩
    iapply ih $$ [HPs HJ]
    · isplitr; · iexact HR
      isplitl [HPs] <;> iassumption
    iintro ⟨HQs, HJ⟩
    iapply Hk
    isplitl [HQ HQs]
    · isplitl [HQ] <;> iassumption
    iexact HJ

/-- A device owing `O`, whatever it has waited for. -/
def owing (c : Dev nD) (O : CellTallies nD τ sig Unit) : sProp 𝕄 := iprop(∃ W, owes (c : Thread nD τ) O W)

/-! ## The signals -/

/-- What step `r`'s signal takes: the token of the partner's duty, and the slot handed over. -/
def sigPre (c : Dev nD) (r : Fin 31) : sProp 𝕄 :=
  iprop(dutyTok EX (barCell (peer c r)) 0 (Fin.rev r) ∗ ∃ f, slotPts c (stepNo (Fin.rev r)) f)

/-- A signal: the slot is handed over, and one unit less is owed. -/
theorem step_sig (Kt : PUnit.{1} → sProp 𝕄) (c : Dev nD) (r : Fin 31) (l : List (Fin 31)) (k : Prg F) :
    iprop(records S K ∗ sigPre c r ∗ owing (F := F) c (owedRcv c steps + owedBar c (r :: l)))
      ⊢ iprop((iprop(emp ∗ owing (F := F) c (owedRcv c steps + owedBar c l)) -∗ runs (F := F) Kt c k) -∗ runs (F := F) Kt c (Prog.op (sigOp c r) fun _ => k)) := by
  unfold sigOp sigPre owing
  rw [sigDev_eq]
  have ho : owedRcv c steps + owedBar c (r :: l) = owedRcv c steps + owedBar c l + tallyAt (barCell (peer c r)) () 1 := by
    rw [owedBar_cons, add_assoc, add_comm (tallyAt (barCell (peer c r)) () 1)]
  have hp : (sched (F := F) S).payload (barCell (peer c r)) 0 (Fin.rev r) = iprop(∃ f, slotPts c (stepNo (Fin.rev r)) f) := by
    show barPay (peer c r) (Fin.rev r) = _
    unfold barPay; rw [peer_rev]
  iintro ⟨#HR, ⟨Ht, Hs⟩, %W, HO⟩ Hk
  iapply (Rounds.wp_signal 𝒱₀ EX (sched S) (c : Thread nD τ) none (dst := (peer c r : Thread nD τ)) (κ := K (peer c r, barKey))
      (d := Fin.rev r) (by rw [duties_zero]; exact Finset.mem_univ _)
      ((show (sched (F := F) S).amount (barCell (peer c r)) 0 (Fin.rev r) = 1 from rfl).trans (by decide)) () (owedRcv c steps + owedBar c l) ho)
    $$ [HO Ht Hs]
  · isplitr; · iapply (records_inv S K (peer c r, barKey)); iexact HR
    isplitl [HO]; · iexact HO
    isplitl [Ht]; · iexact Ht
    isplitl [Hs]
    · rw [hp]; iexact Hs
    iapply (records_reached S K (peer c r, barKey)); iexact HR
  iintro HO
  iapply Hk
  isplitr; · iempintro
  iexists W; iexact HO

/-! ## The transfers -/

/-- What step `r`'s transfer takes: the rows, the partner's slot, the tokens of both duties; -/
def sndPre (c : Dev nD) (r : Fin 31) : sProp 𝕄 :=
  iprop(rowPts c (peer c r) (S c) ∗ (∃ f, slotPts (peer c r) (stepNo r) f) ∗ dutyTok EX (sndCell c (stepNo r)) 0 0
    ∗ dutyTok EX (rcvCell (peer c r) (stepNo r)) 0 0)
/-- and what it leaves: the credit for the wait. -/
def sndPost (c : Dev nD) (r : Fin 31) : sProp 𝕄 := cred (tallyAt (sndCell c (stepNo r)) () N)

set_option maxHeartbeats 400000 in
/-- A copy: the rows and the partner's slot go, and one block less is owed. -/
theorem step_snd (Kt : PUnit.{1} → sProp 𝕄) (c : Dev nD) (r : Fin 31) (l : List (Fin 31)) (k : Prg F) :
    iprop(records S K ∗ sndPre S c r ∗ owing (F := F) c (owedRcv c (r :: l)))
      ⊢ iprop((iprop(sndPost c r ∗ owing (F := F) c (owedRcv c l)) -∗ runs (F := F) Kt c k) -∗ runs (F := F) Kt c (Prog.op (sndOp c r) fun _ => k)) := by
  have hsend : ∀ (n : Dev nD) (hn : n = peer c r) (fd : RcvC F) (W : Waits sig Unit),
      iprop(cellInv EX (sched S) (K (c, sndKey (stepNo r))) (sndCell c (stepNo r)) ∗ cellInv EX (sched S) (K (n, rcvKey (stepNo r))) (rcvCell n (stepNo r))
        ∗ rowPts c n (S c) ∗ slotPts n (stepNo r) fd ∗ owes (c : Thread nD τ) (owedRcv c (r :: l)) W
        ∗ dutyTok EX (sndCell c (stepNo r)) 0 0 ∗ reached EX (sndCell c (stepNo r)) 0
        ∗ dutyTok EX (rcvCell n (stepNo r)) 0 0 ∗ reached EX (rcvCell n (stepNo r)) 0)
      ⊢ iprop(((cred (tallyAt (sndCell c (stepNo r)) () N) ∗ owes (c : Thread nD τ) (owedRcv c l) W) -∗ runs (F := F) Kt c k)
          -∗ runs (F := F) Kt c (Prog.op (.enqueueDma (rowsM c r) (.remote (Dev.tc n) (slotM (stepNo r)) (.dma (sndSem (stepNo r)))) (.dma (rcvSem (stepNo r)))
              (rows_exact c r) (slot_exact (stepNo r)) ⟨⟨rfl, Or.inl rfl⟩, trivial⟩) fun _ => k)) := by
    intro n hn fd W
    subst hn
    unfold rowPts slotPts
    rw [← rows_set, ← slot_set]
    have hd₁ : (0 : Fin 31) ∈ (sched (F := F) S).duties (sndCell c (stepNo r)) 0 := by
      rw [duties_zero, dutiesOf_snd]; exact Finset.mem_singleton_self _
    have hd₂ : (0 : Fin 31) ∈ (sched (F := F) S).duties (rcvCell (peer c r) (stepNo r)) 0 := by
      rw [duties_zero, dutiesOf_rcv]; exact Finset.mem_singleton_self _
    have hp₁ : (((rowsM c r).view.loc (c : Thread nD τ) ↦[(rowsM c r).view.set]{fullShare} S c : sProp 𝕄))
        ⊢ (sched S).payload (sndCell c (stepNo r)) 0 0 := by
      show _ ⊢ payOf S c 0 (.dma (sndSem (stepNo r)))
      rw [payOf_snd]; unfold sndPay rowPts; rw [shift_step, rows_set]
    have hp₂ : (((slotM (stepNo r)).view.loc (peer c r : Thread nD τ) ↦[(slotM (stepNo r)).view.set]{fullShare}
          (slotM (stepNo r)).view.write (Elt F) fd ((rowsM c r).view.read (Elt F) (S c)) Finset.univ : sProp 𝕄))
        ⊢ (sched S).payload (rcvCell (peer c r) (stepNo r)) 0 0 := by
      show _ ⊢ payOf S (peer c r) 0 (.dma (rcvSem (stepNo r)))
      rw [payOf_rcv, slot_set]; unfold rcvPay slotPts
      exact Entails.of_eq (pointsTo_congr fun i hi => landed S c r fd i hi)
    have ho : owedRcv c (r :: l) = owedRcv c l + tallyAt (rcvCell (peer c r) (stepNo r)) () N := by rw [owedRcv_cons, add_comm]
    have hN : (slotM (stepNo r)).view.amount (.dma (rcvSem (stepNo r))) = N := N_slot (stepNo r)
    have hk₁ : (sched (F := F) S).amount (sndCell c (stepNo r)) 0 0 = N := amount_dma S c _ 0
    have hk₂ : (sched (F := F) S).amount (rcvCell (peer c r) (stepNo r)) 0 0 = N := amount_dma S (peer c r) _ 0
    exact Rounds.wp_send_pointsTo (Q := Kt) (k := fun _ => k) 𝒱₀ EX (sched S) (c : Thread nD τ) none (c' := (peer c r : Thread nD τ)) (src := rowsM c r) (dst := slotM (stepNo r))
      (hsc := rfl) (sS := .dma (sndSem (stepNo r))) (sem := .dma (rcvSem (stepNo r))) (hsrc := rows_exact c r) (hdst := slot_exact (stepNo r)) (hsem := ⟨⟨rfl, Or.inl rfl⟩, trivial⟩)
      (κ₁ := K (c, sndKey (stepNo r))) (κ₂ := K (peer c r, rcvKey (stepNo r))) (q := fullShare) (fs := S c)
      (r₁ := 0) (r₂ := 0) (d₁ := 0) (d₂ := 0) (fd := fd) hd₁ hd₂ () () N hN hk₁ hk₂ (owedRcv c l) ho (W := W) hp₁ hp₂
  unfold sndOp sndPre sndPost owing
  iintro ⟨#HR, ⟨Hrow, ⟨%fd, Hslot⟩, Ht, Ht'⟩, %W, HO⟩ Hk
  iapply (hsend (⟨sndNo r c, sndNo_lt r c⟩ : Dev nD) (sndDev_eq c r) fd W) $$ [Hrow Hslot Ht Ht' HO]
  · rw [sndDev_eq]
    isplitr; · iapply (records_inv S K (c, sndKey (stepNo r))); iexact HR
    isplitr; · iapply (records_inv S K (peer c r, rcvKey (stepNo r))); iexact HR
    isplitl [Hrow]; · iexact Hrow
    isplitl [Hslot]; · iexact Hslot
    isplitl [HO]; · iexact HO
    isplitl [Ht]; · iexact Ht
    isplitr; · iapply (records_reached S K (c, sndKey (stepNo r))); iexact HR
    isplitl [Ht']; · iexact Ht'
    iapply (records_reached S K (peer c r, rcvKey (stepNo r))); iexact HR
  iintro ⟨Hc, HO⟩
  iapply Hk
  isplitl [Hc]; · iexact Hc
  iexists W; iexact HO

/-! ## The waits -/

/-- A wait on one of the transfers' semaphores: the block comes back, and the semaphore is at zero for good. -/
theorem step_wait (Kt : PUnit.{1} → sProp 𝕄) (c : Dev nD) (r : Fin 31) (b : Bool) (pay : sProp 𝕄) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (csem (.inr (b, stepNo r))) N Q)
    (hk : (sched S).expect (cellAt (c, .inr (b, stepNo r))) 0 = N)
    (hpay : bigSep ((sched S).duties (cellAt (c, .inr (b, stepNo r))) 0 \ ∅) (fun d => (sched S).payload (cellAt (c, .inr (b, stepNo r))) 0 d) = pay)
    (k : Prg F) :
    iprop(records S K ∗ iprop(cred (tallyAt (cellAt (c, .inr (b, stepNo r))) () N) ∗ atPos EX (cellAt (c, .inr (b, stepNo r))) 0 ∅ 0) ∗ owing (F := F) c 0)
      ⊢ iprop((iprop(iprop(pay ∗ semVal (cellAt (c, .inr (b, stepNo r))) 0) ∗ owing (F := F) c 0) -∗ runs (F := F) Kt c k) -∗ runs (F := F) Kt c (Prog.op w fun _ => k)) := by
  unfold owing
  iintro ⟨#HR, ⟨Hc, Hat⟩, %W, HO⟩ Hk
  iapply (Rounds.wp_wait_rest_token 𝒱₀ EX (sched S) (c : Thread nD τ) none (κ := K (c, .inr (b, stepNo r)))
      hw (Set.mem_univ _) () (O := 0) (W := W) (R := 0) (m := 0) (T := ∅) (by rw [Nat.zero_add]; exact hk.symm)) $$ [Hc HO Hat]
  · isplitr; · iapply (records_inv S K (c, .inr (b, stepNo r))); iexact HR
    isplitl [Hc]; · iexact Hc
    isplitl [HO]; · iexact HO
    isplitr; · rw [MayWait_zero]; iempintro
    iexact Hat
  iintro ⟨HO, Hat, -, Hpay⟩
  imod (Rounds.cell_close EX (sched S) (Set.mem_univ (K (c, .inr (b, stepNo r)))) (fun h => h) (R := 0 + 1) (duties_later S (cellAt (c, .inr (b, stepNo r))))) $$ [Hat] with Hz
  · isplitr; · iapply (records_inv S K (c, .inr (b, stepNo r))); iexact HR
    iexact Hat
  ihave Hp := (Entails.of_eq hpay) $$ Hpay
  iapply Hk
  isplitl [Hp Hz]
  · isplitl [Hp] <;> iassumption
  iexists _; iexact HO

/-- What a wait for an arrival takes, -/
def rcvPre (c : Dev nD) (r : Fin 31) : sProp 𝕄 := iprop(cred (tallyAt (rcvCell c (stepNo r)) () N) ∗ atPos EX (rcvCell c (stepNo r)) 0 ∅ 0)
/-- and leaves. -/
def rcvPost (c : Dev nD) (r : Fin 31) : sProp 𝕄 := iprop(slotPts c (stepNo r) (recvBuf S c) ∗ semVal (rcvCell c (stepNo r)) 0)
/-- What a wait for a departure takes besides the transfer's credit, -/
def outPre (c : Dev nD) (r : Fin 31) : sProp 𝕄 := iprop(sndPost c r ∗ atPos EX (sndCell c (stepNo r)) 0 ∅ 0)
/-- and leaves. -/
def outPost (c : Dev nD) (r : Fin 31) : sProp 𝕄 := iprop(rowPts c (peer c r) (S c) ∗ semVal (sndCell c (stepNo r)) 0)

/-- A wait for a block to arrive: the slot comes, filled. -/
theorem step_rcvWait (Kt : PUnit.{1} → sProp 𝕄) (c : Dev nD) (r : Fin 31) (k : Prg F) :
    iprop(records S K ∗ rcvPre c r ∗ owing (F := F) c 0)
      ⊢ iprop((iprop(rcvPost S c r ∗ owing (F := F) c 0) -∗ runs (F := F) Kt c k) -∗ runs (F := F) Kt c (Prog.op (rcvWaitOp c r) fun _ => k)) :=
  step_wait S K Kt c r true _ (w := rcvWaitOp c r) (fun Q => by unfold rcvWaitOp; exact wpE_waitDma2_eq 𝒱₀ (c : Thread nD τ) none Set.univ Q) (expect_rcv S c r)
    (by rw [Finset.sdiff_empty, show (sched S).duties (cellAt (c, .inr (true, stepNo r))) 0 = {0} from (duties_zero S c _).trans (dutiesOf_rcv r), bigSep_singleton]
        exact payOf_rcv S c 0 (stepNo r)) k

/-- A wait for a block to have left: the rows come back. -/
theorem step_sndWait (Kt : PUnit.{1} → sProp 𝕄) (c : Dev nD) (r : Fin 31) (k : Prg F) :
    iprop(records S K ∗ outPre c r ∗ owing (F := F) c 0)
      ⊢ iprop((iprop(outPost S c r ∗ owing (F := F) c 0) -∗ runs (F := F) Kt c k) -∗ runs (F := F) Kt c (Prog.op (sndWaitOp c r) fun _ => k)) :=
  step_wait S K Kt c r false _ (w := sndWaitOp c r) (fun Q => by unfold sndWaitOp; exact wpE_waitDma2_eq 𝒱₀ (c : Thread nD τ) none Set.univ Q) (expect_snd S c r)
    (by rw [Finset.sdiff_empty, show (sched S).duties (cellAt (c, .inr (false, stepNo r))) 0 = {0} from (duties_zero S c _).trans (dutiesOf_snd r), bigSep_singleton]
        exact payOf_snd S c 0 (stepNo r)) k

/-! ## The runs of thirty-one -/

/-- The 31 signals. -/
theorem run_sig (Kt : PUnit.{1} → sProp 𝕄) (c : Dev nD) (k : Prg F) :
    iprop(records S K ∗ bigSepL steps (sigPre c) ∗ owing (F := F) c (owed₀ c))
      ⊢ iprop((owing (F := F) c (owedRcv c steps) -∗ runs (F := F) Kt c k) -∗ runs (F := F) Kt c (each (sigOp c) steps k)) := by
  unfold owed₀
  iintro H Hk
  iapply (runs_each Kt c (sigOp c) (records S K) (sigPre c) (fun _ => iprop(emp)) (fun l => owing (F := F) c (owedRcv c steps + owedBar c l))
    (step_sig S K Kt c) k steps) $$ H
  iintro ⟨-, HO⟩
  iapply Hk
  rw [owedBar_nil, add_zero]
  iexact HO

/-- The 31 copies. -/
theorem run_snd (Kt : PUnit.{1} → sProp 𝕄) (c : Dev nD) (k : Prg F) :
    iprop(records S K ∗ bigSepL steps (sndPre S c) ∗ owing (F := F) c (owedRcv c steps))
      ⊢ iprop((iprop(bigSepL steps (sndPost c) ∗ owing (F := F) c 0) -∗ runs (F := F) Kt c k) -∗ runs (F := F) Kt c (each (sndOp c) steps k)) :=
  runs_each Kt c (sndOp c) (records S K) (sndPre S c) (sndPost c) (fun l => owing (F := F) c (owedRcv c l)) (step_snd S K Kt c) k steps

/-- The 31 waits for blocks to arrive. -/
theorem run_rcvWait (Kt : PUnit.{1} → sProp 𝕄) (c : Dev nD) (k : Prg F) :
    iprop(records S K ∗ bigSepL steps (rcvPre c) ∗ owing (F := F) c 0)
      ⊢ iprop((iprop(bigSepL steps (rcvPost S c) ∗ owing (F := F) c 0) -∗ runs (F := F) Kt c k) -∗ runs (F := F) Kt c (each (rcvWaitOp c) steps k)) :=
  runs_each Kt c (rcvWaitOp c) (records S K) (rcvPre c) (rcvPost S c) (fun _ => owing (F := F) c 0) (fun r _ k => step_rcvWait S K Kt c r k) k steps

/-- The 31 waits for blocks to have left. -/
theorem run_sndWait (Kt : PUnit.{1} → sProp 𝕄) (c : Dev nD) (k : Prg F) :
    iprop(records S K ∗ bigSepL steps (outPre c) ∗ owing (F := F) c 0)
      ⊢ iprop((iprop(bigSepL steps (outPost S c) ∗ owing (F := F) c 0) -∗ runs (F := F) Kt c k) -∗ runs (F := F) Kt c (each (sndWaitOp c) steps k)) :=
  runs_each Kt c (sndWaitOp c) (records S K) (outPre c) (outPost S c) (fun _ => owing (F := F) c 0) (fun r _ k => step_sndWait S K Kt c r k) k steps

end Cert.K
end
-- ==== Proof.Deal.lean ====
/-
Separating conjunctions over the thirty-two slots, devices or semaphores, written as the one at distance 0 and the thirty-one steps';
and the two scratch buffers so cut and put together again.
-/
module

public import proofs.«01_k».proof.Proof.Steps

@[expose] public section

set_option maxRecDepth 16384

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Over the steps -/

/-- A product over the steps is the product over their list. -/
theorem over_steps (Φ : Fin 31 → sProp 𝕄) : bigSep Finset.univ Φ = bigSepL steps Φ := bigSep_univ_eq_bigSepL steps (by decide) (by decide) Φ

/-- Two different steps have different numbers. -/
theorem stepNo_injective : Function.Injective stepNo := fun r r' h => Fin.ext (Nat.succ_injective (congrArg Fin.val h))

/-- Thirty-two are the first and the steps'. -/
theorem over_slots (Φ : Fin 32 → sProp 𝕄) : bigSep Finset.univ Φ = iprop(Φ 0 ∗ bigSepL steps fun r => Φ (stepNo r)) := by
  rw [bigSep_univ_at Φ 0, show (Finset.univ.erase (0 : Fin 32)) = Finset.univ.map ⟨stepNo, stepNo_injective⟩ by decide, bigSep_map, ← over_steps]
  rfl

/-- The devices are those at distance `k` from one of them. -/
def around (c : Dev nD) : Fin 32 ≃ Dev nD where
  toFun := shift c
  invFun d := ⟨(d.val + (32 - c.val)) % 32, Nat.mod_lt _ (by decide)⟩
  left_inv k := Fin.ext (by
    have hc : c.val < 32 := c.isLt
    have hk : k.val < 32 := k.isLt
    show ((c.val + k.val) % 32 + (32 - c.val)) % 32 = k.val
    omega)
  right_inv d := Fin.ext (by
    have hc : c.val < 32 := c.isLt
    have hd : d.val < 32 := d.isLt
    show (c.val + (d.val + (32 - c.val)) % 32) % 32 = d.val
    omega)

/-- The thirty-two devices are the device itself and its partners. -/
theorem over_devs (c : Dev nD) (Φ : Dev nD → sProp 𝕄) : bigSep Finset.univ Φ = iprop(Φ c ∗ bigSepL steps fun r => Φ (peer c r)) := by
  rw [bigSep_univ_equiv (around c) Φ, over_slots]
  have h : around c 0 = c := Fin.ext (by have hc : c.val < 32 := c.isLt; show (c.val + 0) % 32 = c.val; omega)
  rw [h]; rfl

/-- The steps counted backwards. -/
theorem over_steps_rev (Φ : Fin 31 → sProp 𝕄) : (bigSepL steps Φ) = bigSepL steps fun r => Φ (Fin.rev r) := by
  rw [← over_steps, bigSep_univ_equiv Fin.revPerm Φ, over_steps]; rfl

/-- A product of pairs over the steps is the pair of the products. -/
theorem steps_sep (Φ Ψ : Fin 31 → sProp 𝕄) : (bigSepL steps fun r => iprop(Φ r ∗ Ψ r)) = iprop(bigSepL steps Φ ∗ bigSepL steps Ψ) := by
  rw [← over_steps, bigSep_sep', over_steps, over_steps]

/-- The kernel's own semaphores: the sending ones and the receiving ones, the first of each apart. -/
theorem over_own (Φ : Own → sProp 𝕄) :
    bigSep Finset.univ Φ = iprop((Φ (false, 0) ∗ bigSepL steps fun r => Φ (false, stepNo r)) ∗ (Φ (true, 0) ∗ bigSepL steps fun r => Φ (true, stepNo r))) := by
  rw [bigSep_univ_prod, bigSep_univ_eq_bigSepL [false, true] (by decide) (by decide), bigSepL_cons', bigSepL_singleton, over_slots, over_slots]

/-- All its semaphores: the barrier and its own. -/
theorem over_keys (Φ : Key → sProp 𝕄) : bigSep Finset.univ Φ = iprop(Φ barKey ∗ bigSep Finset.univ fun k : Own => Φ (.inr k)) := by
  refine (bigSep_univ_sum Φ).trans ?_
  rw [bigSep_univ_of_subsingleton ()]
  rfl

/-! ## The scratch buffers -/

/-- The sending buffer is the device's own rows and its partners' rows. -/
theorem snd_cut (c : Dev nD) (f : SndC F) :
    ((c : Thread nD τ).loc cc0_scratch0 ↦{fullShare} f : sProp 𝕄) = iprop(rowPts c c f ∗ bigSepL steps fun r => rowPts c (peer c r) f) := by
  rw [Ring.pointsTo_blocks (ℓ := (c : Thread nD τ).loc cc0_scratch0) rowBlk (fun d d' h => rowBlk_disj d d' h) rowBlk_cover f]
  exact over_devs c (fun d => rowPts c d f)

/-- The receiving buffer is its slot 0 and the slots of the steps. -/
theorem rcv_cut (c : Dev nD) (f : RcvC F) :
    ((c : Thread nD τ).loc cc0_scratch1 ↦{fullShare} f : sProp 𝕄) = iprop(slotPts c 0 f ∗ bigSepL steps fun r => slotPts c (stepNo r) f) := by
  rw [Ring.pointsTo_blocks (ℓ := (c : Thread nD τ).loc cc0_scratch1) slotBlk (fun k k' h => slotBlk_disj k k' h) slotBlk_cover f]
  exact over_slots (fun k => slotPts c k f)

/-- The slots the partners fill. -/
def filled : Finset S32x16x512.Idx := (Finset.univ : Finset (Fin 31)).biUnion fun r => slotBlk (stepNo r)

/-- The filled part of the receiving buffer is the slots of the steps. -/
theorem filled_cut (c : Dev nD) (f : RcvC F) :
    ((c : Thread nD τ).loc cc0_scratch1 ↦[filled]{fullShare} f : sProp 𝕄) = bigSepL steps fun r => slotPts c (stepNo r) f := by
  unfold filled
  rw [pointsTo_biUnion (ℓ := (c : Thread nD τ).loc cc0_scratch1) Finset.univ (fun r : Fin 31 => slotBlk (stepNo r))
    (fun r _ r' _ h => slotBlk_disj _ _ fun h' => h (stepNo_injective h')), over_steps]
  rfl

/-- The first slot and the filled ones make the buffer. -/
theorem rcv_join (c : Dev nD) (f g : RcvC F) :
    iprop(slotPts c 0 f ∗ bigSepL steps fun r => slotPts c (stepNo r) g) ⊢ (iprop(∃ h, (c : Thread nD τ).loc cc0_scratch1 ↦{fullShare} h) : sProp 𝕄) := by
  have hj := Ring.pointsTo_blocks_join_exists (Ix := Unit) (Name := ℕ) (U := UU) (Lvl := ℕ) (ℓ := (c : Thread nD τ).loc cc0_scratch1) (q := fullShare) slotBlk
    (fun k k' h => slotBlk_disj k k' h) slotBlk_cover g
  have he : (bigSep Finset.univ fun k => iprop(∃ f : RcvC F, slotPts c k f) : sProp 𝕄)
      = iprop((∃ f : RcvC F, slotPts c 0 f) ∗ bigSepL steps fun r => iprop(∃ f : RcvC F, slotPts c (stepNo r) f)) := over_slots _
  have hs : (bigSepL steps fun r => slotPts c (stepNo r) g : sProp 𝕄) ⊢ bigSepL steps fun r => iprop(∃ f : RcvC F, slotPts c (stepNo r) f) :=
    bigSepL_mono fun r _ => by iintro H; iexists g; iexact H
  iintro ⟨H0, Hs⟩
  iapply hj
  iapply (Entails.of_eq he.symm)
  isplitl [H0]
  · iexists f; iexact H0
  iapply hs; iexact Hs

/-- The load of the receiving buffer reads filled slots only, -/
theorem rRcv_subset : rRcv.set ⊆ filled := by
  intro i hi
  rw [Rect.mem_set_unit] at hi
  have h0 : 1 ≤ (i 0).val ∧ (i 0).val < 1 + 31 := hi 0
  refine Finset.mem_biUnion.2 ⟨⟨(i 0).val - 1, by omega⟩, Finset.mem_univ _, mem_slotBlk.2 ?_⟩
  rw [stepNo_val]
  show (i 0).val = (i 0).val - 1 + 1
  omega

end Cert.K
end
-- ==== Proof.Run.lean ====
/-
One device's body, run from what the launch gives it: the slots handed out, the barrier passed, the gated products stored and sent,
every block received, the result stored.
-/
module

public import proofs.«01_k».proof.Proof.Deal

@[expose] public section

set_option maxRecDepth 16384

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, the semaphores at zero. -/
def launchSt : MemSt nD τ sig (Elt F) := ⟨m, fun _ => 0, ρ⟩

/-! ## The contents -/

/-- The staged inputs. -/
def xIn (c : Dev nD) : (cc0_stg0_0 : Ref sig .tc).ty.Contents (Elt F) := (win0_0.blk (0 : Fin 1)).view.read (Elt F) (m ((c : Thread nD τ).loc main_arg0))
/-- The router's weights on device `c`. -/
def rwIn (c : Dev nD) : (cc0_stg1_0 : Ref sig .tc).ty.Contents (Elt F) := (win0_1.blk (0 : Fin 1)).view.read (Elt F) (m ((c : Thread nD τ).loc main_arg1))
/-- The experts' numbers on device `c`. -/
def ixIn (c : Dev nD) : (cc0_stg2_0 : Ref sig .tc).ty.Contents (Elt F) := (win0_2.blk (0 : Fin 1)).view.read (Elt F) (m ((c : Thread nD τ).loc main_arg2))
/-- The four matrices on device `c`. -/
def ewIn (c : Dev nD) : (cc0_stg3_0 : Ref sig .tc).ty.Contents (Elt F) := (win0_3.blk (0 : Fin 1)).view.read (Elt F) (m ((c : Thread nD τ).loc main_arg3))
/-- The shared expert's matrix on device `c`. -/
def swIn (c : Dev nD) : (cc0_stg4_0 : Ref sig .tc).ty.Contents (Elt F) := (win0_4.blk (0 : Fin 1)).view.read (Elt F) (m ((c : Thread nD τ).loc main_arg4))

/-- What device `c` stores for sending. -/
def sendBuf (c : Dev nD) : SndC F := gated c (xIn m c) (rwIn m c) (ixIn m c) (xIn m c) fun e => ewM.view.readAt (Elt F) (rEw e).toLoadRect (ewIn m c)

/-- The device's result. -/
def outBuf (c : Dev nD) : (cc0_stg5_0 : Ref sig .tc).ty.Contents (Elt F) :=
  k0_pay1 (k0_pay8 (xM.view.readAt (Elt F) (rMine c).toLoadRect (xIn m c)) (swIn m c))
    (k0_pay9 (sndM.view.readAt (Elt F) (rOwn c).toLoadRect (sendBuf m c)))
    (rcvM.view.readAt (Elt F) rRcv.toLoadRect (recvBuf (sendBuf m) c))

/-! ## What the body starts from and ends with -/

/-- A staging buffer at contents `X`. -/
abbrev holds (c : Dev nD) (b : Ref sig .tc) (X : b.ty.Contents (Elt F)) : sProp 𝕄 := (c : Thread nD τ).loc b ↦{fullShare} X

variable (S : Dev nD → SndC F) (K : Dev nD × Key → ℕ)

/-- The tokens of the duties device `c` pays: one of each partner's barrier, each partner's receiving cell, its own sending cells. -/
def payToks (c : Dev nD) : sProp 𝕄 :=
  iprop((bigSepL steps fun r => dutyTok EX (barCell (peer c r)) 0 (Fin.rev r)) ∗ (bigSepL steps fun r => dutyTok EX (rcvCell (peer c r) (stepNo r)) 0 0)
    ∗ bigSepL steps fun r => dutyTok EX (sndCell c (stepNo r)) 0 0)

/-- The device's positions at its cells. -/
def positions (c : Dev nD) : sProp 𝕄 := bigSep Finset.univ fun k : Key => atPos EX (cellAt (c, k)) 0 ∅ 0

/-- What the launch makes for device `c`. -/
def ghost (c : Dev nD) : sProp 𝕄 := iprop(records S K ∗ positions c ∗ payToks c)

/-- The credits: the barrier's units, the blocks to come. -/
def credits (c : Dev nD) : sProp 𝕄 := iprop(cred (tallyAt (barCell c) () 31) ∗ bigSepL steps fun r => cred (tallyAt (rcvCell c (stepNo r)) () N))

/-- What the body of device `c` starts from: the ghost state, the credits and the levels. -/
def start (c : Dev nD) : sProp 𝕄 := iprop((∃ K, ghost S K c) ∗ credits c ∗ levAts L lv)

/-- The scratch buffers at some contents. -/
def scratch (c : Dev nD) : sProp 𝕄 :=
  iprop((∃ f, (c : Thread nD τ).loc cc0_scratch0 ↦{fullShare} f) ∗ ∃ f, (c : Thread nD τ).loc cc0_scratch1 ↦{fullShare} f)

/-- The device's semaphores at zero. -/
def zeros (c : Dev nD) : sProp 𝕄 := bigSep Finset.univ fun k : Key => semVal (cellAt (c, k)) 0

/-! ## The loads and stores of whole buffers -/

/-- The offset at the origin. -/
theorem zero2 : (![0, 0] : Fin 2 → Nat) = fun _ => 0 := funext fun a => by fin_cases a <;> rfl

/-- Reading all the activations gives them. -/
theorem read_x (f : (cc0_stg0_0 : Ref sig .tc).ty.Contents (Elt F)) : xM.view.readAt (Elt F) rX.toLoadRect f = f := Memref.readAt_unit_zero (Elt F) cc0_stg0_0 zero2 _ f
/-- Reading all the router's weights gives them. -/
theorem read_rw (f : (cc0_stg1_0 : Ref sig .tc).ty.Contents (Elt F)) : rwM.view.readAt (Elt F) rRw.toLoadRect f = f := Memref.readAt_unit_zero (Elt F) cc0_stg1_0 zero2 _ f
/-- Reading all the experts' numbers gives them. -/
theorem read_ix (f : (cc0_stg2_0 : Ref sig .tc).ty.Contents (Elt F)) : ixM.view.readAt (Elt F) rIx.toLoadRect f = f := Memref.readAt_unit_zero (Elt F) cc0_stg2_0 zero2 _ f
/-- Reading all the shared expert's matrix gives it. -/
theorem read_sw (f : (cc0_stg4_0 : Ref sig .tc).ty.Contents (Elt F)) : swM.view.readAt (Elt F) rSw.toLoadRect f = f := Memref.readAt_unit_zero (Elt F) cc0_stg4_0 zero2 _ f
/-- Storing all the sending buffer leaves what was stored. -/
theorem write_snd (f w : SndC F) : (sndM.access rSnd : View sig .tc _ _ _).write (Elt F) f w Finset.univ = w :=
  Memref.write_access_unit_zero_univ (Elt F) cc0_scratch0 zero2 _ f w
/-- Storing all the result's block leaves what was stored. -/
theorem write_out (f w : (cc0_stg5_0 : Ref sig .tc).ty.Contents (Elt F)) : (outM.access rOut : View sig .tc _ _ _).write (Elt F) f w Finset.univ = w :=
  Memref.write_access_unit_zero_univ (Elt F) cc0_stg5_0 zero2 _ f w

/-- Reading the own rows touches only the own block of the sending buffer. -/
theorem own_on (c : Dev nD) : (sndM : Memref sig .tc .vmem S512x512 .bf16).view.setOn (rOwn c).toLoadRect.set ⊆ rowBlk c := by
  intro i hi
  obtain ⟨j, hj, rfl⟩ := Finset.mem_map.1 hi
  have hj' : j ∈ (rOwn c).set := by simpa using hj
  exact own_subset c hj'
/-- Reading the slots 1 to 31 touches only the filled part of the receiving buffer. -/
theorem rcv_on : (rcvM : Memref sig .tc .vmem S32x16x512 .bf16).view.setOn rRcv.toLoadRect.set ⊆ filled := by
  intro i hi
  obtain ⟨j, hj, rfl⟩ := Finset.mem_map.1 hi
  have hj' : j ∈ rRcv.set := by simpa using hj
  exact rRcv_subset hj'

/-- Four matrices listed are the four matrices. -/
theorem experts_eta (c : Dev nD) (x : Vec F S512x256 .bf16) (rw' : Vec F S256x128 .bf16) (ix : Vec F S512x1 .i32) (w : Fin 4 → Vec F S1x256x512 .bf16) :
    gated c x rw' ix x ![w 0, w 1, w 2, w 3] = gated c x rw' ix x w :=
  congrArg (gated c x rw' ix x) (funext fun e => by fin_cases e <;> rfl)

/-! ## The parts of the body -/

section Parts
variable (c : Dev nD)

/-- The handshake: every slot handed out, every partner's slot in hand. -/
theorem part_barrier (Kt : PUnit.{1} → sProp 𝕄) (k : Prg F) :
    iprop(records S K ∗ levAts L lv ∗ owing c (owed₀ c) ∗ (bigSepL steps fun r => dutyTok EX (barCell (peer c r)) 0 (Fin.rev r))
        ∗ (∃ f, bigSepL steps fun r => slotPts c (stepNo r) f) ∗ cred (tallyAt (barCell c) () 31) ∗ atPos EX (barCell c) 0 ∅ 0)
      ⊢ iprop((iprop(owing c (owedRcv c steps) ∗ (bigSepL steps fun r => iprop(∃ f, slotPts (peer c r) (stepNo r) f)) ∗ semVal (barCell c) 0) -∗ runs (F := F) Kt c k)
          -∗ runs (F := F) Kt c (each (sigOp c) steps <| Prog.op (.semWait barS (31#32).toInt) fun _ => k)) := by
  have hgive : (∀ f : RcvC F, (bigSepL steps fun r => slotPts c (stepNo r) f : sProp 𝕄) ⊢ bigSepL steps fun r => iprop(∃ f, slotPts c (stepNo (Fin.rev r)) f)) := fun f => by
    rw [over_steps_rev]
    exact bigSepL_mono fun r _ => by iintro H; iexists f; iexact H
  have hpay : bigSep ((sched (F := F) S).duties (barCell c) 0 \ ∅) (fun d => (sched S).payload (barCell c) 0 d)
      = bigSepL steps fun r => iprop(∃ f, slotPts (peer c r) (stepNo r) f) := by
    rw [Finset.sdiff_empty, duties_zero, ← over_steps]; rfl
  iintro ⟨#HR, #Hlev, HO, Ht, ⟨%f, Hs⟩, Hc, Hat⟩ Hk
  ihave Hs' := (hgive f) $$ Hs
  iapply (run_sig S K Kt c _) $$ [HO Ht Hs']
  · isplitr; · iexact HR
    isplitl [Ht Hs']
    · unfold sigPre; rw [steps_sep]
      isplitl [Ht] <;> iassumption
    iexact HO
  unfold owing
  iintro ⟨%W, HO⟩
  iapply (Rounds.wp_wait_rest_token 𝒱₀ EX (sched S) (c : Thread nD τ) none (κ := K (c, barKey))
      (wpE_semWait_eq 𝒱₀ (c : Thread nD τ) none Set.univ) (Set.mem_univ _) () (O := owedRcv c steps) (W := W) (R := 0) (m := 0) (T := ∅)
      (by rw [expect_bar]; decide)) $$ [Hc HO Hat]
  · isplitr; · iapply (records_inv S K (c, barKey)); iexact HR
    isplitl [Hc]; · iexact Hc
    isplitl [HO]; · iexact HO
    isplitr; · iapply (mayWait_bar c steps); iexact Hlev
    iexact Hat
  iintro ⟨HO, Hat, -, Hpay⟩
  imod (Rounds.cell_close EX (sched S) (Set.mem_univ (K (c, barKey))) (fun h => h) (R := 0 + 1) (duties_later S (barCell c))) $$ [Hat] with Hz
  · isplitr; · iapply (records_inv S K (c, barKey)); iexact HR
    iexact Hat
  ihave Hp := (Entails.of_eq hpay) $$ Hpay
  iapply Hk
  isplitl [HO]; · iexists _; iexact HO
  isplitl [Hp]; · iexact Hp
  iexact Hz

/-- The products: loaded, gated, stored. -/
theorem part_experts (Kt : PUnit.{1} → sProp 𝕄) :
    iprop(holds c cc0_stg0_0 (xIn m c) ∗ holds c cc0_stg1_0 (rwIn m c) ∗ holds c cc0_stg2_0 (ixIn m c) ∗ holds c cc0_stg3_0 (ewIn m c)
        ∗ (∃ f, holds c cc0_scratch0 f))
      ⊢ iprop((iprop(holds c cc0_stg0_0 (xIn m c) ∗ holds c cc0_stg1_0 (rwIn m c) ∗ holds c cc0_stg2_0 (ixIn m c) ∗ holds c cc0_stg3_0 (ewIn m c)
            ∗ holds c cc0_scratch0 (sendBuf m c)) -∗ runs (F := F) Kt c (bodySend c))
          -∗ runs (F := F) Kt c (bodyExperts c)) := by
  unfold bodyExperts
  iintro ⟨Hx, Hrw, Hix, Hew, ⟨%f, Hs⟩⟩ Hk
  iapply (wp_load 𝒱₀ (c : Thread nD τ) none Set.univ (m := xM) (Finset.subset_univ _)) $$ Hx; iintro Hx
  iapply (wp_load 𝒱₀ (c : Thread nD τ) none Set.univ (m := rwM) (Finset.subset_univ _)) $$ Hrw; iintro Hrw
  iapply (wp_load 𝒱₀ (c : Thread nD τ) none Set.univ (m := ixM) (Finset.subset_univ _)) $$ Hix; iintro Hix
  iapply (wp_load 𝒱₀ (c : Thread nD τ) none Set.univ (m := xM) (Finset.subset_univ _)) $$ Hx; iintro Hx
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := sndM) (Finset.subset_univ _)) $$ Hs; iintro Hs
  iapply (wp_store 𝒱₀ (c : Thread nD τ) none Set.univ (m := sndM) (r := rSnd) (Mk := Finset.univ) (Finset.subset_univ _)) $$ Hs; iintro Hs
  rw [write_snd, read_x, read_rw, read_ix, experts_eta c _ _ _ fun e => ewM.view.readAt (Elt F) (rEw e).toLoadRect (ewIn m c)]
  iapply Hk
  isplitl [Hx]; · iexact Hx
  isplitl [Hrw]; · iexact Hrw
  isplitl [Hix]; · iexact Hix
  isplitl [Hew]; · iexact Hew
  iexact Hs

/-- The exchange and the result. -/
theorem part_send (Kt : PUnit.{1} → sProp 𝕄) :
    iprop(records (sendBuf m) K ∗ owing c (owedRcv c steps) ∗ holds c cc0_stg0_0 (xIn m c) ∗ holds c cc0_stg4_0 (swIn m c) ∗ holds c cc0_scratch0 (sendBuf m c)
        ∗ (∃ f, holds c cc0_stg5_0 f)
        ∗ (bigSepL steps fun r => iprop(∃ f, slotPts (peer c r) (stepNo r) f))
        ∗ (bigSepL steps fun r => dutyTok EX (sndCell c (stepNo r)) 0 0) ∗ (bigSepL steps fun r => dutyTok EX (rcvCell (peer c r) (stepNo r)) 0 0)
        ∗ (bigSepL steps (rcvPre c)) ∗ bigSepL steps fun r => atPos EX (sndCell c (stepNo r)) 0 ∅ 0)
      ⊢ iprop((iprop(owing c 0 ∗ holds c cc0_stg0_0 (xIn m c) ∗ holds c cc0_stg4_0 (swIn m c) ∗ holds c cc0_scratch0 (sendBuf m c)
            ∗ holds c cc0_stg5_0 (outBuf m c)
            ∗ (bigSepL steps fun r => slotPts c (stepNo r) (recvBuf (sendBuf m) c))
            ∗ (bigSepL steps fun r => semVal (rcvCell c (stepNo r)) 0) ∗ bigSepL steps fun r => semVal (sndCell c (stepNo r)) 0) -∗ Kt ⟨⟩)
          -∗ runs (F := F) Kt c (bodySend c)) := by
  unfold bodySend bodyEnd
  iintro ⟨#HR, HO, Hx, Hsw, Hs, ⟨%fo, Hout⟩, Hslots, HtS, HtV, Hrcv, Hat⟩ Hk
  ihave Hs' := (Entails.of_eq (snd_cut c (sendBuf m c))) $$ Hs
  icases Hs' with ⟨Hown, Hrows⟩
  iapply (run_snd (sendBuf m) K Kt c _) $$ [HO Hrows Hslots HtS HtV]
  · isplitr; · iexact HR
    isplitl [Hrows Hslots HtS HtV]
    · unfold sndPre; rw [steps_sep, steps_sep, steps_sep]
      isplitl [Hrows]; · iexact Hrows
      isplitl [Hslots]; · iexact Hslots
      isplitl [HtS] <;> iassumption
    iexact HO
  iintro ⟨HcS, HO⟩
  iapply (wp_load 𝒱₀ (c : Thread nD τ) none Set.univ (m := xM) (Finset.subset_univ _)) $$ Hx; iintro Hx
  iapply (wp_load 𝒱₀ (c : Thread nD τ) none Set.univ (m := swM) (Finset.subset_univ _)) $$ Hsw; iintro Hsw
  unfold rowPts
  iapply (wp_load 𝒱₀ (c : Thread nD τ) none Set.univ (m := sndM) (own_on c)) $$ Hown; iintro Hown
  iapply (run_rcvWait (sendBuf m) K Kt c _) $$ [HO Hrcv]
  · isplitr; · iexact HR
    isplitl [Hrcv] <;> iassumption
  iintro ⟨Hgot, HO⟩
  iapply (run_sndWait (sendBuf m) K Kt c _) $$ [HO HcS Hat]
  · isplitr; · iexact HR
    isplitl [HcS Hat]
    · unfold outPre; rw [steps_sep]
      isplitl [HcS] <;> iassumption
    iexact HO
  iintro ⟨Hback, HO⟩
  unfold rcvPost outPost
  ihave Hgot' := (Entails.of_eq (steps_sep (F := F) _ _)) $$ Hgot
  icases Hgot' with ⟨Hgot, HzV⟩
  ihave Hback' := (Entails.of_eq (steps_sep (F := F) _ _)) $$ Hback
  icases Hback' with ⟨Hback, HzS⟩
  ihave Hgot' := (Entails.of_eq (filled_cut c (recvBuf (sendBuf m) c)).symm) $$ Hgot
  iapply (wp_load 𝒱₀ (c : Thread nD τ) none Set.univ (m := rcvM) rcv_on) $$ Hgot'; iintro Hgot'
  iapply (wp_load 𝒱₀ (c : Thread nD τ) none Set.univ (m := outM) (Finset.subset_univ _)) $$ Hout; iintro Hout
  iapply (wp_store 𝒱₀ (c : Thread nD τ) none Set.univ (m := outM) (r := rOut) (Mk := Finset.univ) (Finset.subset_univ _)) $$ Hout; iintro Hout
  rw [write_out, read_sw, wp_ret]; imodintro
  ihave Hgot := (Entails.of_eq (filled_cut c (recvBuf (sendBuf m) c))) $$ Hgot'
  iapply Hk
  isplitl [HO]; · iexact HO
  isplitl [Hx]; · iexact Hx
  isplitl [Hsw]; · iexact Hsw
  isplitl [Hown Hback]
  · iapply (Entails.of_eq (snd_cut c (sendBuf m c)).symm)
    unfold rowPts
    isplitl [Hown] <;> iassumption
  isplitl [Hout]; · iexact Hout
  isplitl [Hgot]; · iexact Hgot
  isplitl [HzV] <;> iassumption

end Parts

end Cert.K
end
-- ==== Proof.Point.lean ====
/-
The kernel's body at the grid's one point, put together from its parts: what the pipeline asks of it, for any device.
-/
module

public import proofs.«01_k».proof.Proof.Run

@[expose] public section

set_option maxRecDepth 16384

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The staged inputs at their contents. -/
def inputs (c : Dev nD) : sProp 𝕄 :=
  iprop(holds c cc0_stg0_0 (xIn m c) ∗ holds c cc0_stg1_0 (rwIn m c) ∗ holds c cc0_stg2_0 (ixIn m c) ∗ holds c cc0_stg3_0 (ewIn m c)
    ∗ holds c cc0_stg4_0 (swIn m c))

/-- A semaphore that takes no part is at zero. -/
theorem idle_zero (S : Dev nD → SndC F) (K : Dev nD × Key → ℕ) (c : Dev nD) (b : Bool) :
    iprop(records S K ∗ atPos EX (cellAt (c, .inr (b, 0))) 0 ∅ 0) ⊢ (|={Set.univ}=> semVal (cellAt (c, .inr (b, 0))) 0 : sProp 𝕄) := by
  iintro ⟨#HR, Hat⟩
  imod (Rounds.cell_close EX (sched S) (Set.mem_univ (K (c, .inr (b, 0)))) (fun h => h) (R := 0) (duties_idle S c b)) $$ [Hat] with Hz
  · isplitr; · iapply (records_inv S K (c, .inr (b, 0))); iexact HR
    iexact Hat
  imodintro
  iexact Hz

/-- Every semaphore's position, as the body uses them: the barrier's, the two idle ones', the steps'. -/
theorem positions_cut (c : Dev nD) : (positions c : sProp 𝕄)
    = iprop(atPos EX (barCell c) 0 ∅ 0 ∗ (atPos EX (sndCell c 0) 0 ∅ 0 ∗ bigSepL steps fun r => atPos EX (sndCell c (stepNo r)) 0 ∅ 0)
        ∗ (atPos EX (rcvCell c 0) 0 ∅ 0 ∗ bigSepL steps fun r => atPos EX (rcvCell c (stepNo r)) 0 ∅ 0)) := by
  unfold positions; rw [over_keys, over_own]; rfl

/-- The semaphores at zero, by the barrier, the sending ones and the receiving ones. -/
theorem zeros_cut (c : Dev nD) : (zeros c : sProp 𝕄)
    = iprop(semVal (barCell c) 0 ∗ (semVal (sndCell c 0) 0 ∗ bigSepL steps fun r => semVal (sndCell c (stepNo r)) 0)
        ∗ (semVal (rcvCell c 0) 0 ∗ bigSepL steps fun r => semVal (rcvCell c (stepNo r)) 0)) := by
  unfold zeros; rw [over_keys, over_own]; rfl

/-- The whole body, on any device. -/
theorem sound_body (K : Dev nD × Key → ℕ) (c : Dev nD) (Kt : PUnit.{1} → sProp 𝕄) :
    iprop(ghost (sendBuf m) K c ∗ credits c ∗ levAts L lv ∗ scratch c ∗ owing (F := F) c (owed₀ c) ∗ inputs m c ∗ ∃ f, holds c cc0_stg5_0 f)
      ⊢ iprop((iprop(scratch c ∗ zeros c ∗ owing (F := F) c 0 ∗ inputs m c ∗ holds c cc0_stg5_0 (outBuf m c)) -∗ Kt ⟨⟩) -∗ runs (F := F) Kt c bodyAll) := by
  have hcut : (∀ f : RcvC F, ((c : Thread nD τ).loc cc0_scratch1 ↦{fullShare} f : sProp 𝕄) ⊢ iprop(slotPts c 0 f ∗ bigSepL steps fun r => slotPts c (stepNo r) f)) :=
    fun f => Entails.of_eq (rcv_cut c f)
  have hrcv : iprop((bigSepL steps fun r => cred (tallyAt (rcvCell c (stepNo r)) () N)) ∗ bigSepL steps fun r => atPos EX (rcvCell c (stepNo r)) 0 ∅ 0)
      ⊢ (bigSepL steps (rcvPre c) : sProp 𝕄) := Entails.of_eq (by unfold rcvPre; rw [steps_sep])
  unfold bodyAll ghost credits payToks scratch inputs
  rw [positions_cut]
  iintro ⟨⟨#HR, ⟨HaB, ⟨HaS0, HaS⟩, ⟨HaV0, HaV⟩⟩, HtB, HtV, HtS⟩, ⟨HcB, HcV⟩, #Hlev, ⟨Hs0, ⟨%g, Hs1⟩⟩, HO, ⟨Hx, Hrw, Hix, Hew, Hsw⟩, Hout⟩ Hk
  simp only [runs, wp_deviceId]
  ihave Hs1' := (hcut g) $$ Hs1
  icases Hs1' with ⟨Hslot0, Hslots⟩
  ihave HrP := hrcv $$ [HcV HaV]
  · isplitl [HcV] <;> iassumption
  iapply (part_barrier (sendBuf m) K c Kt (bodyExperts c)) $$ [HO HtB Hslots HcB HaB]
  · isplitr; · iexact HR
    isplitr; · iexact Hlev
    isplitl [HO]; · iexact HO
    isplitl [HtB]; · iexact HtB
    isplitl [Hslots]; · iexists g; iexact Hslots
    isplitl [HcB] <;> iassumption
  iintro ⟨HO, Hpeers, HzB⟩
  iapply (part_experts m c Kt) $$ [Hx Hrw Hix Hew Hs0]
  · isplitl [Hx]; · iexact Hx
    isplitl [Hrw]; · iexact Hrw
    isplitl [Hix]; · iexact Hix
    isplitl [Hew] <;> iassumption
  iintro ⟨Hx, Hrw, Hix, Hew, Hs0⟩
  imod (idle_zero (sendBuf m) K c false) $$ [HaS0] with HzS0
  · isplitr; · iexact HR
    iexact HaS0
  imod (idle_zero (sendBuf m) K c true) $$ [HaV0] with HzV0
  · isplitr; · iexact HR
    iexact HaV0
  iapply (part_send m K c Kt) $$ [HO Hx Hsw Hs0 Hout Hpeers HtS HtV HrP HaS]
  · isplitr; · iexact HR
    isplitl [HO]; · iexact HO
    isplitl [Hx]; · iexact Hx
    isplitl [Hsw]; · iexact Hsw
    isplitl [Hs0]; · iexact Hs0
    isplitl [Hout]; · iexact Hout
    isplitl [Hpeers]; · iexact Hpeers
    isplitl [HtS]; · iexact HtS
    isplitl [HtV]; · iexact HtV
    isplitl [HrP] <;> iassumption
  iintro ⟨HO, Hx, Hsw, Hs0, Hout, Hslots, HzV, HzS⟩
  iapply Hk
  isplitl [Hs0 Hslot0 Hslots]
  · isplitl [Hs0]; · iexists (sendBuf m c); iexact Hs0
    iapply (rcv_join c g (recvBuf (sendBuf m) c))
    isplitl [Hslot0] <;> iassumption
  isplitl [HzB HzS0 HzS HzV0 HzV]
  · rw [zeros_cut]
    isplitl [HzB]; · iexact HzB
    isplitl [HzS0 HzS]
    · isplitl [HzS0]; · iexact HzS0
      iexact HzS
    · isplitl [HzV0]; · iexact HzV0
      iexact HzV
  isplitl [HO]; · iexact HO
  isplitl [Hx Hrw Hix Hew Hsw]
  · isplitl [Hx]; · iexact Hx
    isplitl [Hrw]; · iexact Hrw
    isplitl [Hix]; · iexact Hix
    isplitl [Hew] <;> iassumption
  iexact Hout

/-! ## The pipeline's data -/

/-- What the pipeline is told: the arrays, what the body leaves in each staging buffer, what is held and owed before and after the point. -/
def dats (_ : Fin 1) (c : Dev nD) : Dat τ (Elt F) Unit ℕ UU ℕ cfg0 c where
  A w := (launchSt m ρ).mem ((cfg0.win w).arr.view.loc (c : Thread nD τ))
  after w _ := match w with
    | ⟨0, _⟩ => xIn m c
    | ⟨1, _⟩ => rwIn m c
    | ⟨2, _⟩ => ixIn m c
    | ⟨3, _⟩ => ewIn m c
    | ⟨4, _⟩ => swIn m c
    | ⟨5, _⟩ => outBuf m c
  Φ t := match t with
    | ⟨0, _⟩ => iprop(start (sendBuf m) c ∗ scratch c)
    | ⟨_ + 1, _⟩ => iprop(scratch c ∗ zeros c)
  q _ := fullShare
  owed t := match t with
    | ⟨0, _⟩ => owed₀ c
    | ⟨_ + 1, _⟩ => 0

/-- At the grid point the activations' staging buffer holds the device's activations. -/
theorem before_x (c : Dev nD) (d) : (dats m ρ 0 c).before (0 : Fin 6) t0_0 d = xIn m c := by unfold Dat.before; rw [if_pos (fetch0_0 t0_0)]; rfl
/-- At the grid point the second staging buffer holds the router's weights. -/
theorem before_rw (c : Dev nD) (d) : (dats m ρ 0 c).before (1 : Fin 6) t0_0 d = rwIn m c := by unfold Dat.before; rw [if_pos (fetch0_1 t0_0)]; rfl
/-- At the grid point the third staging buffer holds the experts' numbers. -/
theorem before_ix (c : Dev nD) (d) : (dats m ρ 0 c).before (2 : Fin 6) t0_0 d = ixIn m c := by unfold Dat.before; rw [if_pos (fetch0_2 t0_0)]; rfl
/-- At the grid point the fourth staging buffer holds the device's four matrices. -/
theorem before_ew (c : Dev nD) (d) : (dats m ρ 0 c).before (3 : Fin 6) t0_0 d = ewIn m c := by unfold Dat.before; rw [if_pos (fetch0_3 t0_0)]; rfl
/-- At the grid point the fifth staging buffer holds the shared expert's matrix. -/
theorem before_sw (c : Dev nD) (d) : (dats m ρ 0 c).before (4 : Fin 6) t0_0 d = swIn m c := by unfold Dat.before; rw [if_pos (fetch0_4 t0_0)]; rfl

/-- A staging buffer at the contents `X`, as the pipeline writes it. -/
abbrev staged (c : Dev nD) (b : Ref sig .tc) (X : b.ty.Contents (Elt F)) : sProp 𝕄 := iprop(∃ g, ⌜g = X⌝ ∗ (c : Thread nD τ).loc b ↦{fullShare} g)

/-- A staging buffer as the pipeline writes it, as the body takes it, -/
theorem staged_holds (c : Dev nD) (b : Ref sig .tc) (X : b.ty.Contents (Elt F)) : staged c b X ⊢ (holds c b X : sProp 𝕄) := by
  iintro ⟨%g, %hg, H⟩; subst hg; iexact H
/-- and back. -/
theorem holds_staged (c : Dev nD) (b : Ref sig .tc) (X : b.ty.Contents (Elt F)) : holds c b X ⊢ (staged c b X : sProp 𝕄) := by
  iintro H; iexists X; isplitr; · (ipureintro; rfl)
  iexact H

/-- What the pipeline hands the body. -/
def bodyPre (c : Dev nD) : sProp 𝕄 :=
  iprop((start (sendBuf m) c ∗ scratch c) ∗ (dats m ρ 0 c).owesAt () t0_0.castSucc
    ∗ (∃ d, staged c cc0_stg0_0 ((dats m ρ 0 c).before (0 : Fin 6) t0_0 d))
    ∗ (∃ d, staged c cc0_stg1_0 ((dats m ρ 0 c).before (1 : Fin 6) t0_0 d))
    ∗ (∃ d, staged c cc0_stg2_0 ((dats m ρ 0 c).before (2 : Fin 6) t0_0 d))
    ∗ (∃ d, staged c cc0_stg3_0 ((dats m ρ 0 c).before (3 : Fin 6) t0_0 d))
    ∗ (∃ d, staged c cc0_stg4_0 ((dats m ρ 0 c).before (4 : Fin 6) t0_0 d))
    ∗ (∃ d, staged c cc0_stg5_0 ((dats m ρ 0 c).before (5 : Fin 6) t0_0 d)))

/-- What the body hands back. -/
def bodyPost (c : Dev nD) : sProp 𝕄 :=
  iprop((scratch c ∗ zeros c) ∗ (dats m ρ 0 c).owesAt () t0_0.succ ∗ staged c cc0_stg0_0 (xIn m c) ∗ staged c cc0_stg1_0 (rwIn m c)
    ∗ staged c cc0_stg2_0 (ixIn m c) ∗ staged c cc0_stg3_0 (ewIn m c) ∗ staged c cc0_stg4_0 (swIn m c) ∗ staged c cc0_stg5_0 (outBuf m c))

/-- Before the grid point the device owes all its signals and copies, -/
theorem owes_enter (c : Dev nD) : (dats m ρ 0 c).owesAt () t0_0.castSucc ⊢ (owing (F := F) c (owed₀ c) : sProp 𝕄) := by
  unfold Dat.owesAt Pipeline.owesWithin owing
  rw [show (dats m ρ 0 c).owed t0_0.castSucc = owed₀ c from rfl]
  iintro ⟨%W, -, H⟩; iexists W; iexact H
/-- and after it nothing. -/
theorem owes_leave (c : Dev nD) : (owing (F := F) c 0 : sProp 𝕄) ⊢ (dats m ρ 0 c).owesAt () t0_0.succ := by
  unfold Dat.owesAt Pipeline.owesWithin owing
  rw [show (dats m ρ 0 c).owed t0_0.succ = 0 from rfl]
  iintro ⟨%W, H⟩; iexists W; isplitr; · ipureintro; exact fun _ _ => Or.inl trivial
  iexact H

/-- The pipeline's entry to the body and its exit from it. -/
theorem body_pre_post (c : Dev nD) : bodyPre m ρ c ⊢ runs (F := F) (fun _ => bodyPost m ρ c) c bodyAll := by
  unfold bodyPre start
  iintro ⟨⟨⟨⟨%K, Hg⟩, Hcr, Hlev⟩, Hscr⟩, Ho, ⟨%d0, Hx⟩, ⟨%d1, Hrw⟩, ⟨%d2, Hix⟩, ⟨%d3, Hew⟩, ⟨%d4, Hsw⟩, ⟨%d5, Hout⟩⟩
  rw [before_x, before_rw, before_ix, before_ew, before_sw]
  iapply (sound_body m K c fun _ => bodyPost m ρ c) $$ [Hg Hcr Hlev Hscr Ho Hx Hrw Hix Hew Hsw Hout]
  · unfold inputs
    isplitl [Hg]; · iexact Hg
    isplitl [Hcr]; · iexact Hcr
    isplitl [Hlev]; · iexact Hlev
    isplitl [Hscr]; · iexact Hscr
    isplitl [Ho]; · iapply (owes_enter m ρ c); iexact Ho
    isplitl [Hx Hrw Hix Hew Hsw]
    · isplitl [Hx]; · iapply (staged_holds (F := F) c cc0_stg0_0 _); iexact Hx
      isplitl [Hrw]; · iapply (staged_holds (F := F) c cc0_stg1_0 _); iexact Hrw
      isplitl [Hix]; · iapply (staged_holds (F := F) c cc0_stg2_0 _); iexact Hix
      isplitl [Hew]; · iapply (staged_holds (F := F) c cc0_stg3_0 _); iexact Hew
      iapply (staged_holds (F := F) c cc0_stg4_0 _); iexact Hsw
    iexists _; iapply (staged_holds (F := F) c cc0_stg5_0 _); iexact Hout
  unfold bodyPost inputs
  iintro ⟨Hscr, Hz, Ho, ⟨Hx, Hrw, Hix, Hew, Hsw⟩, Hout⟩
  isplitl [Hscr Hz]
  · isplitl [Hscr] <;> iassumption
  isplitl [Ho]; · iapply (owes_leave m ρ c); iexact Ho
  isplitl [Hx]; · iapply (holds_staged (F := F) c cc0_stg0_0 _); iexact Hx
  isplitl [Hrw]; · iapply (holds_staged (F := F) c cc0_stg1_0 _); iexact Hrw
  isplitl [Hix]; · iapply (holds_staged (F := F) c cc0_stg2_0 _); iexact Hix
  isplitl [Hew]; · iapply (holds_staged (F := F) c cc0_stg3_0 _); iexact Hew
  isplitl [Hsw]; · iapply (holds_staged (F := F) c cc0_stg4_0 _); iexact Hsw
  iapply (holds_staged (F := F) c cc0_stg5_0 _); iexact Hout

/-- The pipeline's obligation on the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (F := F) xM (Memref.isWhole_whole _) rwM (Memref.isWhole_whole _) ixM (Memref.isWhole_whole _) ewM (Memref.isWhole_whole _)
      swM (Memref.isWhole_whole _) outM (Memref.isWhole_whole _) sndM (Memref.isWhole_whole _) rcvM (Memref.isWhole_whole _) cc0_scratch2 cc0_scratch3)
    (fun _ => bodyPost m ρ c)
  rw [body_eq]
  exact body_pre_post m ρ c

end Cert.K
end
-- ==== Proof.Launch.lean ====
/-
The launch: the exchange's ghost state made, its tokens dealt to the devices that pay them, the launch's credits counted, and the
kernel run on all thirty-two devices.
-/
module

public import proofs.«01_k».proof.Proof.Point
public import Idealize.ShloMosaic.Lib.Pipeline.CollectiveSegs

@[expose] public section

set_option maxRecDepth 16384

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

/-- The kernel's own semaphores are distinct, and are those the call reserves. -/
theorem ownSemFacts : Pipeline.OwnSemFacts cfg0.spec osem := by decide

/-- The number of a semaphore among a device's: distinct keys name distinct semaphores. -/
theorem csem_injective : Function.Injective csem := by
  rintro (⟨⟩ | ⟨b, k⟩) (⟨⟩ | ⟨b', k'⟩) h
  · rfl
  · cases b' <;> cases h
  · cases b <;> cases h
  · have hk := k.isLt
    have hk' := k'.isLt
    cases b <;> cases b'
    · have h' : (sndSem k).val = (sndSem k').val := congrArg Fin.val (SemLoc.dma.inj h)
      rw [sndSem_val, sndSem_val] at h'
      rw [show k = k' from Fin.ext (by omega)]
    · have h' : (sndSem k).val = (rcvSem k').val := congrArg Fin.val (SemLoc.dma.inj h)
      rw [sndSem_val, rcvSem_val] at h'
      omega
    · have h' : (rcvSem k).val = (sndSem k').val := congrArg Fin.val (SemLoc.dma.inj h)
      rw [rcvSem_val, sndSem_val] at h'
      omega
    · have h' : (rcvSem k).val = (rcvSem k').val := congrArg Fin.val (SemLoc.dma.inj h)
      rw [rcvSem_val, rcvSem_val] at h'
      rw [show k = k' from Fin.ext (by omega)]

/-- Different devices or keys have different cells. -/
theorem cellAt_injective : Function.Injective cellAt := fun ck ck' h =>
  Prod.ext (congrArg (fun g : GSem nD τ sig => g.1.1) h) (csem_injective (congrArg Prod.snd h))

/-- All the exchange's cells. -/
def cells : Finset (GSem nD τ sig) := Finset.univ.map ⟨cellAt, cellAt_injective⟩

/-- A device's duties: its barrier's thirty-one, one for each sending step, one for each receiving step. -/
abbrev Duty : Type := Fin 31 ⊕ (Fin 31 ⊕ Fin 31)
/-- The semaphore of a duty, and the duty's number there. -/
def dutyKey : Duty → Key × Fin 31
  | .inl r => (barKey, r)
  | .inr (.inl r) => (sndKey (stepNo r), 0)
  | .inr (.inr r) => (rcvKey (stepNo r), 0)

/-- Different duties have different places. -/
theorem dutyKey_injective : Function.Injective dutyKey := by
  rintro (r | r | r) (r' | r' | r') h
  · exact congrArg Sum.inl (congrArg Prod.snd h)
  all_goals first
    | (have h' := congrArg Prod.fst h; simp [dutyKey] at h'; done)
    | (have h' := congrArg Prod.fst h
       have hr : r = r' := stepNo_injective (congrArg Prod.snd (Sum.inr.inj h'))
       rw [hr])

/-- The token of a device's duty. -/
def tokAt (cd : Dev nD × Duty) : GSem nD τ sig × ℕ × Fin 31 := (cellAt (cd.1, (dutyKey cd.2).1), 0, (dutyKey cd.2).2)
/-- Different duties have different tokens. -/
theorem tokAt_injective : Function.Injective tokAt := fun x y h => by
  have h1 := cellAt_injective (congrArg Prod.fst h)
  have h2 : (dutyKey x.2).2 = (dutyKey y.2).2 := congrArg (fun t => t.2.2) h
  have h3 : x.1 = y.1 := (Prod.mk.inj h1).1
  exact Prod.ext h3 (dutyKey_injective (Prod.ext (Prod.mk.inj h1).2 h2))
/-- All the tokens of the exchange. -/
def tokens : Finset (GSem nD τ sig × ℕ × Fin 31) := Finset.univ.map ⟨tokAt, tokAt_injective⟩

/-- The launch's ghost state: the pipeline's and the exchange's. -/
def u₀ : UU := (initOf (Pipeline.cells cfgs cellOf_inj) (Pipeline.launchToks cfgs cellOf_inj), initOf cells tokens)

/-- The tokens of a device's own cells. -/
def ownToks (c : Dev nD) : sProp 𝕄 :=
  iprop((bigSepL steps fun r => dutyTok EX (barCell c) 0 r) ∗ (bigSepL steps fun r => dutyTok EX (sndCell c (stepNo r)) 0 0)
    ∗ bigSepL steps fun r => dutyTok EX (rcvCell c (stepNo r)) 0 0)

/-- What the launch deals a device first, -/
def dealt (c : Dev nD) : sProp 𝕄 :=
  iprop((bigSep Finset.univ fun k : Key => roundState EX (sched (sendBuf m)) (cellAt (c, k)) 0)
    ∗ positions c ∗ (bigSep Finset.univ fun k : Key => reached EX (cellAt (c, k)) 0) ∗ ownToks c)
/-- and what it has once the cells' invariants stand. -/
def given (c : Dev nD) : sProp 𝕄 := iprop(∃ K, ghost (sendBuf m) K c)

/-- A product over the cells is a product over devices and keys. -/
theorem over_cells (Φ : GSem nD τ sig → sProp 𝕄) : bigSep cells Φ = bigSep Finset.univ fun c : Dev nD => bigSep Finset.univ fun k : Key => Φ (cellAt (c, k)) := by
  unfold cells; rw [bigSep_map, bigSep_univ_prod]; rfl

/-- The tokens are, device by device, those of its own cells. -/
theorem over_tokens : bigSep tokens (fun x => (dutyTok EX x.1 x.2.1 x.2.2 : sProp 𝕄)) = bigSep Finset.univ fun c : Dev nD => ownToks c := by
  unfold tokens
  rw [bigSep_map, bigSep_univ_prod]
  refine bigSep_congr fun c _ => ?_
  unfold ownToks
  refine (bigSep_univ_sum _).trans ?_
  rw [← over_steps, ← over_steps, ← over_steps]
  exact congrArg _ (bigSep_univ_sum _)

/-- The exchange's ghost state gives every device what it is dealt first. -/
theorem fund_exchange : BI.own (EX (initOf cells tokens)) ⊢ (|==> bigSep Finset.univ (dealt m) : sProp 𝕄) := by
  iintro HX
  imod (Rounds.fund EX (sched (sendBuf m)) cells tokens) $$ HX with ⟨Hst, Hr, Hat, Htok⟩
  imodintro
  ihave Hst' := (Entails.of_eq (over_cells fun g => roundState EX (sched (sendBuf m)) g 0)) $$ Hst
  ihave Hat' := (Entails.of_eq (over_cells (F := F) fun g => atPos EX g 0 ∅ 0)) $$ Hat
  ihave Hr' := (Entails.of_eq (over_cells (F := F) fun g => reached EX g 0)) $$ Hr
  ihave Htok' := (Entails.of_eq (over_tokens (F := F))) $$ Htok
  unfold dealt positions; simp only [bigSep_sep']
  isplitl [Hst']; · iexact Hst'
  isplitl [Hat']; · iexact Hat'
  isplitl [Hr']; · iexact Hr'
  iexact Htok'

/-! ## The semaphores, and the invariants over them -/

/-- The one semaphore outside the call's own is the barrier's. -/
theorem unscoped_bar (c : Dev nD) : (unscopedSems0 c : sProp 𝕄) = semVal (barCell c) 0 := by
  unfold unscopedSems0; rw [bigSep_eq_bigSepL_of_eq [SemLoc.reg barS] (by decide) (by decide)]; rfl

/-- The semaphores at zero are the barrier's and the call's own. -/
theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  rw [unscoped_bar]; unfold zeros; rw [over_keys]; rfl

/-- A device's cells set up. -/
theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Key => iprop(∃ κ : ℕ, cellInv EX (sched (sendBuf m)) κ (cellAt (c, k))))
          ∗ positions c ∗ (bigSep Finset.univ fun k : Key => reached EX (cellAt (c, k)) 0) ∗ ownToks c) := by
  have hinv : iprop((zeros c : sProp 𝕄) ∗ bigSep Finset.univ fun k : Key => roundState EX (sched (sendBuf m)) (cellAt (c, k)) 0)
      ⊢ (|={Set.univ}=> bigSep Finset.univ fun k : Key => iprop(∃ κ : ℕ, cellInv EX (sched (sendBuf m)) κ (cellAt (c, k))) : sProp 𝕄) := by
    unfold zeros
    rw [← bigSep_sep']
    exact (bigSep_mono fun k _ => (Rounds.body_intro EX (sched (sendBuf m)) (cellAt (c, k))).trans inv_alloc).trans (bigSep_fupd _ _)
  unfold dealt
  iintro ⟨Hos, Hus, Hst, Hrest⟩
  imod hinv $$ [Hos Hus Hst] with Hinv
  · rw [zeros_eq]
    isplitl [Hos Hus]
    · isplitl [Hus] <;> iassumption
    iexact Hst
  imodintro
  isplitl [Hinv] <;> iassumption

/-! ## The tokens dealt to those that pay -/

/-- A step's partner is a permutation of the devices. -/
def partners (r : Fin 31) : Dev nD ≃ Dev nD where
  toFun c := peer c r
  invFun c := peer c (Fin.rev r)
  left_inv c := peer_rev c r
  right_inv c := by
    have h := peer_rev c (Fin.rev r)
    rwa [Fin.rev_rev] at h

/-- What each device has for its steps is what each has for its partners. -/
theorem deal_round (Φ : Dev nD → Fin 31 → sProp 𝕄) :
    (bigSep Finset.univ fun c : Dev nD => bigSepL steps (Φ c)) = bigSep Finset.univ fun c : Dev nD => bigSepL steps fun r => Φ (peer c r) r := by
  have h (Ψ : Dev nD → Fin 31 → sProp 𝕄) : (bigSep Finset.univ fun c : Dev nD => bigSepL steps (Ψ c))
      = bigSep Finset.univ fun r : Fin 31 => bigSep Finset.univ fun c : Dev nD => Ψ c r := by
    simp only [← over_steps]; exact bigSep_univ_comm Ψ
  rw [h, h]
  exact bigSep_congr fun r _ => bigSep_univ_equiv (partners r) fun c => Φ c r

/-- The tokens by the cells' owners are the same tokens by their payers. -/
theorem toks_dealt : (bigSep Finset.univ fun c : Dev nD => (ownToks c : sProp 𝕄)) = bigSep Finset.univ fun c : Dev nD => payToks c := by
  have hb : (bigSep Finset.univ fun c : Dev nD => (bigSepL steps fun r => dutyTok EX (barCell c) 0 r : sProp 𝕄))
      = bigSep Finset.univ fun c : Dev nD => bigSepL steps fun r => dutyTok EX (barCell (peer c r)) 0 (Fin.rev r) :=
    (bigSep_congr fun c _ => over_steps_rev _).trans (deal_round fun c r => dutyTok EX (barCell c) 0 (Fin.rev r))
  have hv : (bigSep Finset.univ fun c : Dev nD => (bigSepL steps fun r => dutyTok EX (rcvCell c (stepNo r)) 0 0 : sProp 𝕄))
      = bigSep Finset.univ fun c : Dev nD => bigSepL steps fun r => dutyTok EX (rcvCell (peer c r) (stepNo r)) 0 0 :=
    deal_round fun c r => dutyTok EX (rcvCell c (stepNo r)) 0 0
  unfold ownToks payToks
  rw [bigSep_sep', bigSep_sep', bigSep_sep', bigSep_sep', hb, hv]
  exact congrArg _ (Entails.antisymm BI.sep_comm BI.sep_comm)

/-- Everybody's records, shared out with what is each device's own. -/
theorem share_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ := by
  have h1 : iprop(R ∗ bigSep Finset.univ Φ) ⊢ bigSep Finset.univ fun c => iprop(R ∗ Φ c) := by
    rw [bigSep_sep']; exact sep_mono_left (BI.bigSep_of_persistent Finset.univ R)
  exact h1.trans (bigSep_mono fun c _ => h c)

/-- From the cells set up on each device, every device gets all records and its own share. -/
theorem regroup :
    (bigSep Finset.univ fun c : Dev nD => iprop((bigSep Finset.univ fun k : Key => iprop(∃ κ : ℕ, cellInv EX (sched (sendBuf m)) κ (cellAt (c, k))))
          ∗ positions c ∗ (bigSep Finset.univ fun k : Key => reached EX (cellAt (c, k)) 0) ∗ ownToks c) : sProp 𝕄)
      ⊢ bigSep Finset.univ (given m) := by
  rw [bigSep_sep', bigSep_sep', bigSep_sep', toks_dealt, ← bigSep_univ_prod (fun ck : Dev nD × Key => iprop(∃ κ : ℕ, cellInv EX (sched (sendBuf m)) κ (cellAt ck))),
    ← bigSep_univ_prod (fun ck : Dev nD × Key => (reached EX (cellAt ck) 0 : sProp 𝕄))]
  iintro ⟨HI, Hat, #HR, Htok⟩
  ihave HK := (BI.bigSep_exists_pi Finset.univ (fun (ck : Dev nD × Key) (κ : ℕ) => (cellInv EX (sched (sendBuf m)) κ (cellAt ck) : sProp 𝕄))) $$ HI
  icases HK with ⟨%K, #HI⟩
  iapply (share_records (R := records (sendBuf m) K) (Φ := fun c => iprop(positions c ∗ payToks c)) fun c => by
    unfold given ghost
    iintro ⟨HR, Hat, Htok⟩
    iexists K
    isplitl [HR]; · iexact HR
    isplitl [Hat] <;> iassumption)
  isplitr
  · unfold records; isplitl; · iexact HI
    iexact HR
  · rw [bigSep_sep']
    isplitl [Hat] <;> iassumption

/-- The semaphores and what is dealt first become what every device is given. -/
theorem glob : (bigSep Finset.univ fun c => iprop(Pipeline.ownSems0 (Ix := Unit) (Name := ℕ) (U := UU) (Lvl := ℕ) (Val := Elt F) (τ := τ) osem c
      ∗ unscopedSems0 c ∗ dealt m c) : sProp 𝕄)
    ⊢ |={Set.univ}=> bigSep Finset.univ (given m) :=
  ((bigSep_mono fun c _ => core_alloc m c).trans (bigSep_fupd _ _)).trans (BI.fupd_mono (regroup m))

/-! ## The launch's credits -/

/-- `n` units owed singly are `n` units owed at once. -/
theorem tallies (g : GSem nD τ sig) (n : ℕ) : n • (tallyAt g () 1 : CellTallies nD τ sig Unit) = tallyAt g () n := by
  induction n with
  | zero => rw [zero_smul]; exact (tallyAt_zero g ()).symm
  | succ n ih => rw [succ_nsmul, ih, tallyAt_add]

/-- Thirty-one credits of one unit are one credit of 31. -/
theorem cred_units (c : Dev nD) : (bigSepL steps fun _ => cred (tallyAt (barCell c) () 1) : sProp 𝕄) = cred (tallyAt (barCell c) () 31) := by
  rw [← over_steps, ← Pipeline.cred_finsetSum Finset.univ (fun _ : Fin 31 => (tallyAt (barCell c) () 1 : CellTallies nD τ sig Unit)), Finset.sum_const,
    Finset.card_univ, Fintype.card_fin, tallies]

/-- What the steps make the devices owe on semaphores `s r` of their partners is each device's credit there. -/
theorem cred_round (s : Fin 31 → SemLoc sig) (n : ℕ) (c : Dev nD) :
    (Pipeline.launchCred (fun d => (steps.map fun r => tallyAt (((peer d r : Dev nD) : Thread nD τ), s r) () n).sum) c : sProp 𝕄)
      ⊢ bigSepL steps fun r => cred (tallyAt ((c : Thread nD τ), s r) () n) := by
  have hs : (fun d : Dev nD => (steps.map fun r => (tallyAt (((peer d r : Dev nD) : Thread nD τ), s r) () n : CellTallies nD τ sig Unit)).sum)
      = fun d => ∑ r : Fin 31, tallyAt (((peer d r : Dev nD) : Thread nD τ), s r) () n := funext fun d => (Fin.sum_univ_def _).symm
  rw [hs, Pipeline.launchCred_sum Finset.univ (fun (r : Fin 31) (d : Dev nD) => (tallyAt (((peer d r : Dev nD) : Thread nD τ), s r) () n : CellTallies nD τ sig Unit)),
    over_steps]
  exact bigSepL_mono fun r _ => Pipeline.launchCred_tallyAt (s r) (fun d => peer d r) (fun d => peer d (Fin.rev r)) (partners r).right_inv (partners r).left_inv () n c

/-- The launch's credits on device `c`: the barrier's units and the blocks to come. -/
theorem creds (c : Dev nD) : (Pipeline.launchCred owed₀ c : sProp 𝕄) ⊢ credits c := by
  have h1 : (Pipeline.launchCred owed₀ c : sProp 𝕄) = iprop(Pipeline.launchCred (fun d => owedRcv d steps) c ∗ Pipeline.launchCred (fun d => owedBar d steps) c) :=
    Pipeline.launchCred_add (fun d => owedRcv d steps) (fun d => owedBar d steps) c
  unfold credits
  rw [h1, ← cred_units]
  iintro ⟨HV, HB⟩
  isplitl [HB]
  · iapply (cred_round (F := F) (fun _ => .reg barS) 1 c); iexact HB
  · iapply (cred_round (F := F) (fun r => .dma (rcvSem (stepNo r))) N c); iexact HV

/-! ## The side conditions -/

/-- The call holds all of each of its arrays. -/
theorem share_full (c : Dev nD) (w : Fin cfg0.W) : (dats m ρ 0 c).share w = fullShare := by unfold Dat.share; split <;> rfl

/-- What the launch leaves with a device is what its body starts from. -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ given m c)
      ⊢ |={Set.univ}=> iprop(start (sendBuf m) c ∗ emp) := by
  iintro ⟨-, Hlev, Hcr, -, HG⟩
  ihave Hc := (creds (F := F) c) $$ Hcr
  imodintro
  unfold start given
  isplitl
  · isplitl [HG]; · iexact HG
    isplitl [Hc] <;> iassumption
  · iempintro

/-- The start and the scratch buffers make the state before the one grid point. -/
theorem enter (c : Dev nD) :
    iprop(start (sendBuf m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start (sendBuf m) c ∗ scratch c) from rfl, scopedRest0_eq]
  unfold scratch
  iintro ⟨Hs, -, Hr⟩
  isplitl [Hs] <;> iassumption

/-- The state after the one grid point gives back the semaphores at zero and the scratch buffers. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scratch c ∗ zeros c) from rfl, scopedRest0_eq, zeros_eq]
  unfold scratch
  iintro ⟨Hr, Hu, Ho⟩
  isplitl [Hu]; · iexact Hu
  isplitl [Ho] <;> iassumption

/-- The staging copies' waits are allowed with everything that the device owes. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> decide)
    · show _ ⊢ MayWait _ _ () 0
      rw [MayWait_zero]; iintro -; iempintro

/-! ## The run -/

/-- An array after the run. -/
def finalA (c : Dev nD) (w : Fin cfg0.W) : Buf (Elt F) ((cfg0.win w).arr.view.loc (c : Thread nD τ)) := (dats m ρ 0 c).arrAt w cfg0.N

/-- On thirty-two devices, for any float values, from any memory with the semaphores at zero: every fair execution of the program ends,
    with each array at its computed contents and every semaphore at zero. -/
theorem run_main : θ_run defs (onTc (τ := τ) (main (F := F))) (launchSt m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := owed₀) (howed₀ := fun _ => rfl) (howedN := fun _ => rfl)
    (L := L) (lv := lv) (hL := L_of_ne) (hwaits := waits m ρ)
    (G := dealt m) (G' := given m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start (sendBuf m)) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.K
end
-- ==== Proof.Frames.lean ====
/-
What the run leaves: the arguments unchanged, the result array at the device's computed block; and from it the two programs' frames.
-/
module

public import proofs.«01_k».proof.Defs
public import proofs.«01_k».proof.Proof.Gen.Kernel
public import proofs.«01_k».proof.Proof.Launch
public import Idealize.ShloMosaic.Lib.Pipeline.Value

@[expose] public section

set_option maxRecDepth 16384

noncomputable section

namespace Cert.K

open Cert.KernelIdeal Cert.KernelIdeal.Gen
open Idealize.ShloMosaic Idealize.ShloMosaic.TcCoe Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- An input window's array ends as it began. -/
theorem final_input (c : Dev nD) (w : Fin cfg0.W) (h : (cfg0.win w).isOut = false) : finalA m ρ c w = m ((cfg0.win w).arr.view.loc (c : Thread nD τ)) :=
  (dats (F := F) m ρ 0 c).arrAt_in w h _

/-- The output window's one block is the whole array. -/
theorem out_emb (i : S16x512.Idx) : (win0_5.blk (0 : Fin 1)).view.emb i = i := by
  funext a
  apply Fin.ext
  match a with
  | ⟨0, _⟩ => show 0 * 16 + 1 * (i 0).val = (i 0).val; omega
  | ⟨1, _⟩ => show 0 * 512 + 1 * (i 1).val = (i 1).val; omega

/-- The result array ends at what the body stored. -/
theorem final_out (c : Dev nD) : finalA m ρ c (5 : Fin 6) = outBuf m c := by
  refine (dats (F := F) m ρ 0 c).arrAt_eq_of_cover (5 : Fin 6) (outBuf m c) (fun t _ => ?_) (fun i => ⟨t0_0, flush0_5 _, ?_⟩)
  · rw [fin_N0 t]
    funext i
    rw [View.read_apply]
    show outBuf m c _ = outBuf m c ((win0_5.blk (0 : Fin 1)).view.emb i)
    rw [out_emb]
  · have h := (win0_5.blk (0 : Fin 1)).view.emb_mem_set i
    rw [out_emb] at h
    exact h

/-- The run, read at the program's arrays: the result, the arguments, the semaphores. -/
theorem run_named : θ_run defs (onTc (τ := τ) (main (F := F))) ⟨m, fun _ => 0, ρ⟩ (fun r =>
    (∀ c : Dev nD, r.2.mem ((c.tc : Thread nD τ).loc main_v1) = outBuf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono
    (fun r h => ⟨fun c => ⟨(h.1 c (5 : Fin 6)).trans (final_out m ρ c), (h.1 c (0 : Fin 6)).trans (final_input m ρ c (0 : Fin 6) rfl),
      (h.1 c (1 : Fin 6)).trans (final_input m ρ c (1 : Fin 6) rfl), (h.1 c (2 : Fin 6)).trans (final_input m ρ c (2 : Fin 6) rfl),
      (h.1 c (3 : Fin 6)).trans (final_input m ρ c (3 : Fin 6) rfl), (h.1 c (4 : Fin 6)).trans (final_input m ρ c (4 : Fin 6) rfl)⟩, h.2⟩)
    (run_main m ρ)

/-- The idealized program's frame. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (run_named (F := Ideal) m g)

/-- The same frame at the floats' words, -/
theorem frame_words (m : (ℓ : Loc nD τ sig) → Buf (Elt Bits) ℓ) (g : Dev nD → PrngReg) :
    θ_run (defs (F := Bits)) (onTc (τ := τ) (main (F := Bits))) ⟨m, fun _ => 0, g⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_named (F := Bits) m g)

/-- and the two programs' bodies are one: the table of kernel bodies, -/
theorem bodies_eq : Cert.Kernel.defs₀ (F := Bits) = defs₀ (F := Bits) := by
  refine congrArg (Defs.onTc (nD := nD) (τ := τ) (sig := sig) (Val := Elt Bits) (Λ := Λ₀)) ?_
  funext l a
  match l, a with
  | 0, (t, s) => rfl
/-- and the table with the pipeline's. -/
theorem table_eq : Cert.Kernel.defs (F := Bits) = defs (F := Bits) := congrArg (Pipeline.defs pcfgs) bodies_eq

/-- The program's frame: its text is the idealized one's. -/
theorem frame_kernel : Cert.quiescent_Kernel (hKernel := Cert.Kernel.Gen.facts) := fun m g _ => by
  have h := frame_words m g
  rw [← table_eq] at h
  exact h

end Cert.K
end
-- ==== Proof.Model.lean ====
/- The common value of the kernel and the reference, in sums over extended reals, and the facts on expert numbers as
   32-bit words that bring both programs to it. -/
module

public import proofs.«01_k».proof.Proof.Gen.KernelIdeal
public import Idealize.ShloMosaic.Lib.Pointwise
public import Idealize.ShloMosaic.Lib.Tactic.WordOmega

@[expose] public section

set_option maxRecDepth 16384

noncomputable section

namespace Cert.K

open Cert.KernelIdeal Cert.KernelIdeal.Gen
open Idealize.ShloMosaic Idealize.ShloMosaic.TcCoe

/-- Row `i`'s product with column `e` of the router's matrix. -/
def score (x : S512x256.Idx → EReal) (rw : S256x128.Idx → EReal) (i : Fin 512) (e : Fin 128) : EReal :=
  ∑ k, x (ix2 i k) * rw (ix2 k e)

/-- Its exponential, the row's largest score taken off. -/
def weight (x : S512x256.Idx → EReal) (rw : S256x128.Idx → EReal) (i : Fin 512) (e : Fin 128) : EReal :=
  Ideal.exp (score x rw i e - Finset.fold max (Ideal.ofBits FTy.f32 0xFF800000#32) (fun e' => score x rw i e') Finset.univ)

/-- The probability that row `i` is routed to expert `e`. -/
def prob (x : S512x256.Idx → EReal) (rw : S256x128.Idx → EReal) (i : Fin 512) (e : Fin 128) : EReal :=
  Ideal.div (weight x rw i e) (∑ e', weight x rw i e')

/-- Row `i`'s product with column `j` of expert `e`'s matrix. -/
def routed (x : S512x256.Idx → EReal) (ew : (⟨3, ![128, 256, 512]⟩ : Shape).Idx → EReal) (i : Fin 512) (e : Fin 128) (j : Fin 512) : EReal :=
  ∑ k, x (ix2 i k) * ew (ix3 e k j)

/-- The value at the expert that the word `w` names, and 0 where it names none. -/
def atExpert (w : BitVec 32) (f : Fin 128 → EReal) : EReal :=
  if h : w.toNat < 128 then f ⟨w.toNat, h⟩ else 0

/-- The result at row `i`, column `j`: the shared product and the gated routed one. -/
def value (x : S512x256.Idx → EReal) (rw : S256x128.Idx → EReal) (ix : S512x1.Idx → BitVec 32) (ew : (⟨3, ![128, 256, 512]⟩ : Shape).Idx → EReal)
    (sw : S256x512.Idx → EReal) (i j : Fin 512) : EReal :=
  ∑ k, x (ix2 i k) * sw (ix2 k j) + atExpert (ix (ix2 i 0)) fun e => prob x rw i e * routed x ew i e j

/-- The sum over all experts of the terms that a comparison with the word keeps is the one term that the word names. -/
theorem sum_select (w : BitVec 32) (f : Fin 128 → EReal) :
    (∑ e : Fin 128, Scalar.select (IntOp.cmpi CmpIPredicate.eq w (BitVec.ofNat 32 e.val)) (f e) 0) = atExpert w f := by
  have hsel : ∀ e : Fin 128, Scalar.select (IntOp.cmpi CmpIPredicate.eq w (BitVec.ofNat 32 e.val)) (f e) 0
      = if w.toNat = e.val then f e else 0 := fun e => by
    have hw : (BitVec.ofNat 32 e.val).toNat = e.val := by
      rw [BitVec.toNat_ofNat]; have := e.isLt; omega
    by_cases h : w.toNat = e.val
    · have : w = BitVec.ofNat 32 e.val := BitVec.eq_of_toNat_eq (h.trans hw.symm)
      rw [if_pos h, this]; simp [Scalar.select, IntOp.cmpi]
    · have : w ≠ BitVec.ofNat 32 e.val := fun h' => h ((congrArg BitVec.toNat h').trans hw)
      rw [if_neg h]; simp [Scalar.select, IntOp.cmpi, beq_eq_false_iff_ne.mpr this]
  rw [Finset.sum_congr rfl fun e _ => hsel e]
  unfold atExpert
  by_cases h : w.toNat < 128
  · rw [dif_pos h, Finset.sum_eq_single (⟨w.toNat, h⟩ : Fin 128)]
    · rw [if_pos rfl]
    · intro b _ hb; exact if_neg fun h' => hb (Fin.ext h'.symm)
    · intro h'; exact absurd (Finset.mem_univ _) h'
  · rw [dif_neg h]
    exact Finset.sum_eq_zero fun e _ => if_neg fun h' => h (lt_of_eq_of_lt h' e.isLt)

/-- Where the word names an expert, the value that it names may be read off under the name. -/
theorem atExpert_mul (w : BitVec 32) (f g : Fin 128 → EReal) :
    (atExpert w fun e => atExpert w f * g e) = atExpert w fun e => f e * g e := by
  unfold atExpert
  by_cases h : w.toNat < 128
  · simp only [dif_pos h]
  · simp only [dif_neg h]

/-- A row's number, signed, is itself; the wrap of negative numbers leaves it. -/
theorem row_word (i : Fin 512) :
    (Scalar.select (IntOp.cmpi CmpIPredicate.slt (BitVec.ofNat 32 i.val) 0#32) (IntOp.addi (BitVec.ofNat 32 i.val) 512#32)
      (BitVec.ofNat 32 i.val)).toInt.toNat = i.val := by
  revert i; decide

/-- The clipped number of an expert in range is the number itself; the wrap of negative numbers leaves it. -/
theorem expert_word (w : BitVec 32) (h : w.toNat < 128) :
    (Scalar.select (IntOp.cmpi CmpIPredicate.slt (IntOp.minsi 127#32 (IntOp.maxsi 0#32 w)) 0#32)
      (IntOp.addi (IntOp.minsi 127#32 (IntOp.maxsi 0#32 w)) 128#32) (IntOp.minsi 127#32 (IntOp.maxsi 0#32 w))).toInt.toNat = w.toNat := by
  obtain ⟨e, rfl⟩ : ∃ e : Fin 128, w = BitVec.ofNat 32 e.val :=
    ⟨⟨w.toNat, h⟩, (BitVec.ofNat_toNat 32 w).symm ▸ (by simp)⟩
  revert e; decide

/-- The reference's range test holds exactly for the numbers of experts. -/
theorem known_word (w : BitVec 32) (a b : EReal) :
    Scalar.select (IntOp.andi (IntOp.cmpi CmpIPredicate.sge w 0#32) (IntOp.cmpi CmpIPredicate.slt w 128#32)) a b
      = if w.toNat < 128 then a else b := by
  have hz : (0#32).toInt = 0 := rfl
  have hn : (128#32).toInt = 128 := rfl
  have hi := BitVec.toInt_eq_toNat_cond w
  have hl := w.isLt
  by_cases h : w.toNat < 128
  · have h1 : (0#32).sle w = true := by rw [BitVec.sle_iff_toInt_le]; omega
    have h2 : w.slt 128#32 = true := by rw [BitVec.slt_iff_toInt_lt]; omega
    rw [if_pos h]; simp [Scalar.select, IntOp.andi, IntOp.cmpi, h1, h2]
  · rw [if_neg h]
    by_cases h1 : (0#32).sle w = true
    · have h2 : ¬ w.slt 128#32 = true := by
        rw [BitVec.sle_iff_toInt_le] at h1
        rw [BitVec.slt_iff_toInt_lt]; omega
      simp [Scalar.select, IntOp.andi, IntOp.cmpi, h1, h2]
    · simp [Scalar.select, IntOp.andi, IntOp.cmpi, h1]

end Cert.K

end
-- ==== Proof.Value.lean ====
/- The kernel's result, read at an index, is the model's value at the device's rows. -/
module

public import proofs.«01_k».proof.Proof.Frames
public import proofs.«01_k».proof.Proof.Model

@[expose] public section

set_option maxRecDepth 16384

noncomputable section

namespace Cert.K

open Cert.KernelIdeal Cert.KernelIdeal.Gen
open Idealize.ShloMosaic Idealize.ShloMosaic.TcCoe Idealize.SL.Sem

variable (m : (ℓ : Loc nD τ sig) → Buf (Elt Ideal) ℓ)

/-! ## The computed values at an index -/

/-- The selected probability of a row: that of the expert its word names, 0 where it names none. -/
theorem selected_at (x : Vec Ideal S512x256 .bf16) (rw : Vec Ideal S256x128 .bf16) (ix : Vec Ideal S512x1 .i32) (i : Fin 512) (z : Fin 1) :
    k0_pay3 (F := Ideal) x rw ix (ix2 i z) = atExpert (ix (ix2 i 0)) fun e => prob x rw i e := by
  rw [← sum_select]
  pointwise [k0_pay3, k0_pay2]
  rfl

/-- The word of device `d`'s expert `e` in the whole list of experts. -/
theorem expert_number (d : Dev nD) :
    Scalar.addi (Scalar.muli (devWord d) 4#32) 0#32 = BitVec.ofNat 32 (4 * d.val + 0)
    ∧ Scalar.addi (Scalar.muli (devWord d) 4#32) 1#32 = BitVec.ofNat 32 (4 * d.val + 1)
    ∧ Scalar.addi (Scalar.muli (devWord d) 4#32) 2#32 = BitVec.ofNat 32 (4 * d.val + 2)
    ∧ Scalar.addi (Scalar.muli (devWord d) 4#32) 3#32 = BitVec.ofNat 32 (4 * d.val + 3) := by
  revert d; decide

/-- What a device stores for sending: for each of its experts, the gated product where the row's word names it. -/
theorem gated_at (d : Dev nD) (x : Vec Ideal S512x256 .bf16) (rw : Vec Ideal S256x128 .bf16) (ix : Vec Ideal S512x1 .i32)
    (w : Fin 4 → Vec Ideal S1x256x512 .bf16) (i j : Fin 512) :
    gated d x rw ix x w (ix2 i j)
      = ∑ e : Fin 4, Scalar.select (IntOp.cmpi CmpIPredicate.eq (ix (ix2 i 0)) (BitVec.ofNat 32 (4 * d.val + e.val)))
          (atExpert (ix (ix2 i 0)) (fun e => prob x rw i e) * ∑ k, x (ix2 i k) * w e (ix3 0 k j)) 0 := by
  obtain ⟨h0, h1, h2, h3⟩ := expert_number d
  rw [Fin.sum_univ_four]
  unfold gated
  pointwise [k0_pay7, k0_pay6, k0_pay5, k0_pay4, k0_pay2]
  rw [selected_at, h0, h1, h2, h3]
  rfl

/-- The result: the shared product of the device's rows, its own gated products and the received ones. -/
theorem total_at (x : Vec Ideal S16x256 .bf16) (w : Vec Ideal S256x512 .bf16) (o : Vec Ideal S16x512 .bf16) (r : Vec Ideal S31x16x512 .bf16)
    (i : Fin 16) (j : Fin 512) :
    k0_pay1 (F := Ideal) (k0_pay8 x w) (k0_pay9 o) r (ix2 i j)
      = ∑ k, x (ix2 i k) * w (ix2 k j) + o (ix2 i j) + ∑ k : Fin 31, r (ix3 k i j) := by
  pointwise [k0_pay1, k0_pay8, k0_pay9]

/-! ## The buffers' windows -/

/-- The staged inputs are the arguments. -/
theorem xIn_eq (c : Dev nD) : xIn m c = m ((c : Thread nD τ).loc main_arg0) := by
  unfold xIn; funext i; rw [View.read_apply]
  refine congrArg (m ((c : Thread nD τ).loc main_arg0)) ?_
  funext a; apply Fin.ext
  match a with
  | ⟨0, _⟩ => show 0 * 512 + 1 * (i 0).val = (i 0).val; omega
  | ⟨1, _⟩ => show 0 * 256 + 1 * (i 1).val = (i 1).val; omega

/-- The router's weights on device `c` are its second argument. -/
theorem rwIn_eq (c : Dev nD) : rwIn m c = m ((c : Thread nD τ).loc main_arg1) := by
  unfold rwIn; funext i; rw [View.read_apply]
  refine congrArg (m ((c : Thread nD τ).loc main_arg1)) ?_
  funext a; apply Fin.ext
  match a with
  | ⟨0, _⟩ => show 0 * 256 + 1 * (i 0).val = (i 0).val; omega
  | ⟨1, _⟩ => show 0 * 128 + 1 * (i 1).val = (i 1).val; omega

/-- The experts' numbers on device `c` are its third argument. -/
theorem ixIn_eq (c : Dev nD) : ixIn m c = m ((c : Thread nD τ).loc main_arg2) := by
  unfold ixIn; funext i; rw [View.read_apply]
  refine congrArg (m ((c : Thread nD τ).loc main_arg2)) ?_
  funext a; apply Fin.ext
  match a with
  | ⟨0, _⟩ => show 0 * 512 + 1 * (i 0).val = (i 0).val; omega
  | ⟨1, _⟩ => show 0 * 1 + 1 * (i 1).val = (i 1).val; omega

/-- The four matrices on device `c` are its fourth argument. -/
theorem ewIn_eq (c : Dev nD) : ewIn m c = m ((c : Thread nD τ).loc main_arg3) := by
  unfold ewIn; funext i; rw [View.read_apply]
  refine congrArg (m ((c : Thread nD τ).loc main_arg3)) ?_
  funext a; apply Fin.ext
  match a with
  | ⟨0, _⟩ => show 0 * 4 + 1 * (i 0).val = (i 0).val; omega
  | ⟨1, _⟩ => show 0 * 256 + 1 * (i 1).val = (i 1).val; omega
  | ⟨2, _⟩ => show 0 * 512 + 1 * (i 2).val = (i 2).val; omega

/-- The shared expert's matrix on device `c` is its fifth argument. -/
theorem swIn_eq (c : Dev nD) : swIn m c = m ((c : Thread nD τ).loc main_arg4) := by
  unfold swIn; funext i; rw [View.read_apply]
  refine congrArg (m ((c : Thread nD τ).loc main_arg4)) ?_
  funext a; apply Fin.ext
  match a with
  | ⟨0, _⟩ => show 0 * 256 + 1 * (i 0).val = (i 0).val; omega
  | ⟨1, _⟩ => show 0 * 512 + 1 * (i 1).val = (i 1).val; omega

/-- Expert `e`'s matrix in the device's own. -/
theorem read_expert (X : (cc0_stg3_0 : Ref sig .tc).ty.Contents (Elt Ideal)) (e : Fin 4) (k : Fin 256) (j : Fin 512) :
    ewM.view.readAt (Elt Ideal) (rEw e).toLoadRect X (ix3 0 k j) = X (ix3 e k j) := by
  rw [View.readAt_apply, View.read_apply]
  refine congrArg X ?_
  funext a; apply Fin.ext
  match a with
  | ⟨0, _⟩ => show e.val + 1 * 0 = e.val; omega
  | ⟨1, _⟩ => show 0 + 1 * k.val = k.val; omega
  | ⟨2, _⟩ => show 0 + 1 * j.val = j.val; omega

/-- The device's rows of the activations. -/
theorem read_mine (X : (cc0_stg0_0 : Ref sig .tc).ty.Contents (Elt Ideal)) (c : Dev nD) (i : Fin 16) (k : Fin 256) :
    xM.view.readAt (Elt Ideal) (rMine c).toLoadRect X (ix2 i k) = X (ix2 (rowAt c i) k) := by
  rw [View.readAt_apply, View.read_apply]
  refine congrArg X ?_
  funext a; apply Fin.ext
  match a with
  | ⟨0, _⟩ =>
    show k0_off2 c 0 + 1 * i.val = 16 * c.val + i.val
    have : k0_off2 c 0 = 16 * c.val := by rw [k0_off2_eq]; rfl
    omega
  | ⟨1, _⟩ =>
    show k0_off2 c 1 + 1 * k.val = k.val
    have : k0_off2 c 1 = 0 := by rw [k0_off2_eq]; rfl
    omega

/-- The device's rows of what it stored for sending. -/
theorem read_own (X : SndC Ideal) (c : Dev nD) (i : Fin 16) (j : Fin 512) :
    sndM.view.readAt (Elt Ideal) (rOwn c).toLoadRect X (ix2 i j) = X (ix2 (rowAt c i) j) := by
  rw [View.readAt_apply, View.read_apply]
  refine congrArg X ?_
  funext a; apply Fin.ext
  match a with
  | ⟨0, _⟩ =>
    show k0_off3 c 0 + 1 * i.val = 16 * c.val + i.val
    have : k0_off3 c 0 = 16 * c.val := by rw [k0_off3_eq]; rfl
    omega
  | ⟨1, _⟩ =>
    show k0_off3 c 1 + 1 * j.val = j.val
    have : k0_off3 c 1 = 0 := by rw [k0_off3_eq]; rfl
    omega

/-- The received slots, from the second on: slot `k + 1` holds the device's rows of what the device `k + 1` places
    before it stored. -/
theorem read_slots (S : Dev nD → SndC Ideal) (c : Dev nD) (k : Fin 31) (i : Fin 16) (j : Fin 512) :
    rcvM.view.readAt (Elt Ideal) rRcv.toLoadRect (recvBuf S c) (ix3 k i j) = S (source c k.succ) (ix2 (rowAt c i) j) := by
  rw [View.readAt_apply, View.read_apply]
  have h : rcvM.view.emb ((rRcv).toLoadRect.idx (ix3 k i j)) = (ix3 k.succ i j : S32x16x512.Idx) := by
    funext a; apply Fin.ext
    match a with
    | ⟨0, _⟩ => show 1 + 1 * k.val = k.val + 1; omega
    | ⟨1, _⟩ => show 0 + 1 * i.val = i.val; omega
    | ⟨2, _⟩ => show 0 + 1 * j.val = j.val; omega
  refine (congrArg (recvBuf S c) h).trans ?_
  unfold recvBuf
  refine congrArg (S (source c k.succ)) ?_
  funext a; apply Fin.ext
  match a with
  | ⟨0, _⟩ => rfl
  | ⟨1, _⟩ => rfl

end Cert.K

end
-- ==== Proof.Reference.lean ====
/- The reference's run: its arguments are left unchanged and it ends quiescent. -/
module

public import proofs.«01_k».proof.Defs
public import proofs.«01_k».proof.Proof.Gen.ReferenceIdeal
public import proofs.«01_k».proof.Proof.Gen.ReferenceIdeal.Run
public import Idealize.ShloMosaic.Lib.Claim
public import Idealize.ShloMosaic.Lib.Pointwise

@[expose] public section

set_option maxRecDepth 16384

noncomputable section

namespace Cert.K

open Idealize.ShloMosaic Idealize.ShloMosaic.TcCoe Idealize.SL.Sem

/-- The reference's frame: its run leaves the five arguments as they were, and it owns no semaphore. -/
theorem frame_reference : Cert.quiescent_ReferenceIdeal (hReferenceIdeal := Cert.ReferenceIdeal.Gen.facts) := by
  intro m g _
  exact (θ_run Cert.ReferenceIdeal.defs _ _).mono
    (fun r h => ⟨fun c => (h c).2, sem_eq_zero_of_no_sems (by decide) r.2⟩)
    (Cert.ReferenceIdeal.Value.run (F := Ideal) m g)

end Cert.K

end
-- ==== Proof.RefValue.lean ====
/- The reference's value, read at an index: the shared product, plus the gate times the routed product. -/
module

public import proofs.«01_k».proof.Proof.Reference
public import proofs.«01_k».proof.Proof.Model

@[expose] public section

set_option maxRecDepth 16384

noncomputable section

namespace Cert.K

open Cert.ReferenceIdeal Cert.ReferenceIdeal.Gen
open Idealize.ShloMosaic Idealize.ShloMosaic.TcCoe Idealize.SL.Sem

/-- The gather of one element per row: row `i` reads the element that its pair of words names, each word signed and
    clamped into its axis. -/
theorem gather_pair_at {α : Type} (x : S512x128.Idx → α) (p : IVec S512x2 32) (i : Fin 512) :
    Host.gather gather_S512x128_S512x2_S512_n_01_n_n_01_1_11 x p (ix1 i)
      = x (ix2 ⟨min (p (ix2 i 0)).toInt.toNat 511, by omega⟩ ⟨min (p (ix2 i 1)).toInt.toNat 127, by omega⟩) := by
  have hs : ∀ k : Fin 2, gather_S512x128_S512x2_S512_n_01_n_n_01_1_11.siIdx (ix1 i) k = ix2 i k := fun k => by
    funext b; apply Fin.ext
    match b with
    | ⟨0, _⟩ => rfl
    | ⟨1, _⟩ => rfl
  have h0 := hs 0
  have h1 := hs 1
  unfold Host.gather
  refine congrArg x ?_
  funext a
  apply Fin.ext
  match a with
  | ⟨0, _⟩ =>
    show min (p (gather_S512x128_S512x2_S512_n_01_n_n_01_1_11.siIdx (ix1 i) (0 : Fin 2))).toInt.toNat 511 = _
    rw [h0]; rfl
  | ⟨1, _⟩ =>
    show min (p (gather_S512x128_S512x2_S512_n_01_n_n_01_1_11.siIdx (ix1 i) (1 : Fin 2))).toInt.toNat 127 = _
    rw [h1]; rfl

/-- The gather of one matrix per row: row `i` reads the matrix that its word names, signed and clamped into the
    first axis. -/
theorem gather_slab_at {α : Type} (x : S128x256x512.Idx → α) (p : IVec S512x1 32) (i : Fin 512) (k : Fin 256) (h : Fin 512) :
    Host.gather gather_S128x256x512_S512x1_S512x256x512_12_0_n_n_0_1_1256512 x p (ix3 i k h)
      = x (ix3 ⟨min (p (ix2 i 0)).toInt.toNat 127, by omega⟩ k h) := by
  have h0 : gather_S128x256x512_S512x1_S512x256x512_12_0_n_n_0_1_1256512.siIdx (ix3 i k h) (0 : Fin 1) = ix2 i 0 := by
    funext b; apply Fin.ext
    match b with
    | ⟨0, _⟩ => rfl
    | ⟨1, _⟩ => rfl
  unfold Host.gather
  refine congrArg x ?_
  funext a
  apply Fin.ext
  match a with
  | ⟨0, _⟩ =>
    show min (p (gather_S128x256x512_S512x1_S512x256x512_12_0_n_n_0_1_1256512.siIdx (ix3 i k h) (0 : Fin 1))).toInt.toNat 127 = _
    rw [h0]; rfl
  | ⟨1, _⟩ => show 0 + 0 + k.val = k.val; omega
  | ⟨2, _⟩ => show 0 + 0 + h.val = h.val; omega

/-- The reference's scores' exponentials, each row's largest score taken off. -/
def refExp (x : FVec Ideal S512x256 .bf16) (rw : FVec Ideal S256x128 .bf16) : FVec Ideal S512x128 .f32 :=
  let s := Host.dotGeneral dot_S512x256_S256x128_S512x128_1_0_0_1_n_n none (extf .f32 x bitsLt_bf16_f32) (extf .f32 rw bitsLt_bf16_f32)
  Host.exp (subf s (broadcastInDim S512x128 ![0, 1] bcast_S512x1_S512x128_0_1 (broadcastInDim S512x1 ![0] bcast_S512_S512x1_0
    (Host.reduce FloatOps.maximumf s (constant S_ .f32 0xFF800000#32) reducesTo_S512x128_S512_d1 h_S_))))

/-- The reference's routing probabilities. -/
def refProbs (x : FVec Ideal S512x256 .bf16) (rw : FVec Ideal S256x128 .bf16) : FVec Ideal S512x128 .f32 :=
  Host.divf (refExp x rw) (broadcastInDim S512x128 ![0, 1] bcast_S512x1_S512x128_0_1 (broadcastInDim S512x1 ![0] bcast_S512_S512x1_0
    (Host.reduceAdd (refExp x rw) (constant S_ .f32 0x00000000#32) reducesTo_S512x128_S512_d1 h_S_)))

/-- The routed expert's number, clipped into the experts' range. -/
def refClip (ix : IVec S512x1 32) : IVec S512 32 :=
  minsi (broadcastInDim S512 ![] bcast_S_S512 (id (constantI S_ 32 127#32)))
    (maxsi (broadcastInDim S512 ![] bcast_S_S512 (id (constantI S_ 32 0#32))) (shapeCast S512 ix shapeCasts_S512x1_S512))

/-- The clipped number again, a negative one counted from the end: no clipped number is. -/
def refExpert (ix : IVec S512x1 32) : IVec S512x1 32 :=
  broadcastInDim S512x1 ![0] bcast_S512_S512x1_0
    (select (cmpi .slt (refClip ix) (broadcastInDim S512 ![] bcast_S_S512 (constantI S_ 32 0#32)))
      (addi (refClip ix) (broadcastInDim S512 ![] bcast_S_S512 (constantI S_ 32 128#32))) (refClip ix))

/-- The rows' own numbers, a negative one counted from the end. -/
def refRow : IVec S512x1 32 :=
  broadcastInDim S512x1 ![0] bcast_S512_S512x1_0
    (select (cmpi .slt (iotaInDim S512 32 0) (broadcastInDim S512 ![] bcast_S_S512 (constantI S_ 32 0#32)))
      (addi (iotaInDim S512 32 0) (broadcastInDim S512 ![] bcast_S_S512 (constantI S_ 32 512#32))) (iotaInDim S512 32 0))

/-- The gate of each row: the routed expert's probability, or 0 where the number is out of range. -/
def refGate (x : FVec Ideal S512x256 .bf16) (rw : FVec Ideal S256x128 .bf16) (ix : IVec S512x1 32) : FVec Ideal S512 .f32 :=
  select (andi (cmpi .sge (shapeCast S512 ix shapeCasts_S512x1_S512) (broadcastInDim S512 ![] bcast_S_S512 (constantI S_ 32 0#32)))
      (cmpi .slt (shapeCast S512 ix shapeCasts_S512x1_S512) (broadcastInDim S512 ![] bcast_S_S512 (constantI S_ 32 128#32))))
    (Host.gather gather_S512x128_S512x2_S512_n_01_n_n_01_1_11 (refProbs x rw)
      (concatenate S512x2 1 [⟨S512x1, refRow⟩, ⟨S512x1, refExpert ix⟩] concatenates_S512x1_S512x1_S512x2_d1))
    (broadcastInDim S512 ![] bcast_S_S512 (id (constant S_ .f32 0x00000000#32)))

/-- The product of each row with its routed expert's matrix. -/
def refRouted (x : FVec Ideal S512x256 .bf16) (ix : IVec S512x1 32) (ew : FVec Ideal S128x256x512 .bf16) : FVec Ideal S512x512 .f32 :=
  Host.dotGeneral dot_S512x256_S512x256x512_S512x512_1_1_n_2_0_0 none (extf .f32 x bitsLt_bf16_f32)
    (Host.gather gather_S128x256x512_S512x1_S512x256x512_12_0_n_n_0_1_1256512 (extf .f32 ew bitsLt_bf16_f32) (refExpert ix))

/-- The reference's result, of its five arguments. -/
def refOut (x : FVec Ideal S512x256 .bf16) (rw : FVec Ideal S256x128 .bf16) (ix : IVec S512x1 32) (ew : FVec Ideal S128x256x512 .bf16)
    (sw : FVec Ideal S256x512 .bf16) : FVec Ideal S512x512 .f32 :=
  addf (Host.dotGeneral dot_S512x256_S256x512_S512x512_1_0_0_1_n_n none (extf .f32 x bitsLt_bf16_f32) (extf .f32 sw bitsLt_bf16_f32))
    (mulf (broadcastInDim S512x512 ![0, 1] bcast_S512x1_S512x512_0_1 (broadcastInDim S512x1 ![0] bcast_S512_S512x1_0 (refGate x rw ix)))
      (refRouted x ix ew))

/-- What the run leaves in the result is that result. -/
theorem refOut_eq (m : (ℓ : Loc nD τ sig) → Buf (Elt Ideal) ℓ) (c : Dev nD) :
    Value.res_main_v49 (F := Ideal) m c
      = refOut (m (c.tc.loc main_arg0)) (m (c.tc.loc main_arg1)) (m (c.tc.loc main_arg2)) (m (c.tc.loc main_arg3)) (m (c.tc.loc main_arg4)) :=
  rfl

/-- The reference's probabilities are the model's. -/
theorem refProbs_at (x : FVec Ideal S512x256 .bf16) (rw : FVec Ideal S256x128 .bf16) (i : Fin 512) (e : Fin 128) :
    refProbs x rw (ix2 i e) = prob x rw i e := by
  pointwise [refProbs, refExp]
  rfl

/-- The number by which row `i` reads the experts is the clipped one, wrapped. -/
theorem refExpert_at (ix : IVec S512x1 32) (i : Fin 512) :
    refExpert ix (ix2 i 0)
      = Scalar.select (IntOp.cmpi CmpIPredicate.slt (IntOp.minsi 127#32 (IntOp.maxsi 0#32 (ix (ix2 i 0)))) 0#32)
          (IntOp.addi (IntOp.minsi 127#32 (IntOp.maxsi 0#32 (ix (ix2 i 0)))) 128#32)
          (IntOp.minsi 127#32 (IntOp.maxsi 0#32 (ix (ix2 i 0)))) := by
  pointwise [refExpert, refClip]
  rfl

/-- Row `i` reads its own row of the probabilities. -/
theorem refRow_at (i : Fin 512) : (refRow (ix2 i 0)).toInt.toNat = i.val := by
  pointwise [refRow]
  exact row_word i

/-- The gate is the probability of the expert that the row's word names, and 0 where it names none. -/
theorem refGate_at (x : FVec Ideal S512x256 .bf16) (rw : FVec Ideal S256x128 .bf16) (ix : IVec S512x1 32) (i : Fin 512) :
    refGate x rw ix (ix1 i) = atExpert (ix (ix2 i 0)) fun e => prob x rw i e := by
  pointwise [refGate, gather_pair_at]
  rw [known_word]
  unfold atExpert
  by_cases h : (ix (ix2 i 0)).toNat < 128
  · rw [if_pos h, dif_pos h]
    have hr := refRow_at i
    have he : (refExpert ix (ix2 i 0)).toInt.toNat = (ix (ix2 i 0)).toNat := by
      rw [refExpert_at]; exact expert_word _ h
    have hi := i.isLt
    refine Eq.trans (congrArg (refProbs x rw) (congrArg₂ ix2 (Fin.ext ?_ : _ = i)
      (Fin.ext ?_ : _ = (⟨(ix (ix2 i 0)).toNat, h⟩ : Fin 128)))) (refProbs_at x rw _ _)
    · show min (refRow (ix2 i 0)).toInt.toNat 511 = i.val
      rw [hr]; omega
    · show min (refExpert ix (ix2 i 0)).toInt.toNat 127 = (ix (ix2 i 0)).toNat
      rw [he]; omega
  · rw [if_neg h, dif_neg h]
    exact Ideal.ofBits_zero_f32

/-- THE REFERENCE'S VALUE: the model's, at every index. -/
theorem refOut_at (x : FVec Ideal S512x256 .bf16) (rw : FVec Ideal S256x128 .bf16) (ix : IVec S512x1 32) (ew : FVec Ideal S128x256x512 .bf16)
    (sw : FVec Ideal S256x512 .bf16) (i j : Fin 512) :
    refOut x rw ix ew sw (ix2 i j) = value x rw ix ew sw i j := by
  pointwise [refOut, refRouted, gather_slab_at]
  unfold value
  refine congrArg₂ (· + ·) rfl ?_
  rw [refGate_at]
  unfold atExpert
  by_cases h : (ix (ix2 i 0)).toNat < 128
  · rw [dif_pos h, dif_pos h]
    have he : (refExpert ix (ix2 i 0)).toInt.toNat = (ix (ix2 i 0)).toNat := by
      rw [refExpert_at]; exact expert_word _ h
    refine congrArg₂ (· * ·) rfl ?_
    unfold routed
    refine Finset.sum_congr rfl fun k _ => congrArg₂ (· * ·) rfl (congrArg ew ?_)
    refine congrArg (fun e : Fin 128 => ix3 e k j) (Fin.ext ?_)
    show min (refExpert ix (ix2 i 0)).toInt.toNat 127 = (ix (ix2 i 0)).toNat
    rw [he]; omega
  · rw [dif_neg h, dif_neg h, zero_mul]

end Cert.K

end
-- ==== Proof.Algebraic.lean ====
/- The equation: the kernel's result on device `c` is block `c` of the reference's. -/
module

public import proofs.«01_k».proof.Proof.Value
public import proofs.«01_k».proof.Proof.RefValue
public import Idealize.ShloMosaic.Lib.LayoutAt

@[expose] public section

set_option maxRecDepth 16384

noncomputable section

namespace Cert.K

open Cert.KernelIdeal Cert.KernelIdeal.Gen
open Idealize.ShloMosaic Idealize.ShloMosaic.TcCoe Idealize.SL.Sem

/-! ## The sum over devices -/

/-- Device `d`'s own value and those of its 31 sources are the values of all devices, each once. -/
theorem sum_sources (d : Dev nD) (f : Dev nD → EReal) : f d + ∑ k : Fin 31, f (source d k.succ) = ∑ c : Dev nD, f c := by
  have h0 : source d 0 = d := Fin.ext (by
    show (d.val + (32 - 0)) % 32 = d.val
    have hd : d.val < 32 := d.isLt
    omega)
  have hs : ∀ c, source d (source d c) = c := fun c => Fin.ext (by
    show (d.val + (32 - (d.val + (32 - c.val)) % 32)) % 32 = c.val
    have hd : d.val < 32 := d.isLt
    have hc : c.val < 32 := c.isLt
    omega)
  calc f d + ∑ k : Fin 31, f (source d k.succ) = ∑ k : Fin 32, f (source d k) := by
        rw [Fin.sum_univ_succ]; exact congrArg (· + _) (congrArg f h0.symm)
    _ = ∑ c : Dev nD, f c := Equiv.sum_comp (⟨source d, source d, hs, hs⟩ : Fin 32 ≃ Fin 32) f

/-- A sum over the devices and their four experts each is the sum over all experts. -/
theorem sum_experts (g : Fin 128 → EReal) :
    (∑ d : Fin 32, ∑ e : Fin 4, g ⟨4 * d.val + e.val, by omega⟩) = ∑ e : Fin 128, g e := by
  have h := Equiv.sum_comp (finProdFinEquiv : Fin 32 × Fin 4 ≃ Fin (32 * 4)) g
  rw [Fintype.sum_prod_type] at h
  refine Eq.trans ?_ h
  refine Finset.sum_congr rfl fun d _ => Finset.sum_congr rfl fun e _ => congrArg g (Fin.ext ?_)
  show 4 * d.val + e.val = e.val + 4 * d.val
  omega

/-! ## The kernel's value -/

section Kernel

variable (m : (ℓ : Loc nD τ sig) → Buf (Elt Ideal) ℓ)
variable (x : S512x256.Idx → EReal) (rw' : S256x128.Idx → EReal) (ix : S512x1.Idx → BitVec 32)
  (ew : (⟨3, ![128, 256, 512]⟩ : Shape).Idx → EReal) (sw : S256x512.Idx → EReal)

/-- The five arguments on every device: four whole, and the device's block of the experts. -/
structure Holds : Prop where
  x : ∀ c : Dev nD, m ((c : Thread nD τ).loc main_arg0) = x
  rw : ∀ c : Dev nD, m ((c : Thread nD τ).loc main_arg1) = rw'
  ix : ∀ c : Dev nD, m ((c : Thread nD τ).loc main_arg2) = ix
  ew : ∀ c : Dev nD, m ((c : Thread nD τ).loc main_arg3) = Layout.block ⟨3, ![4, 256, 512]⟩ ⟨3, ![128, 256, 512]⟩ 0 32 c ew
  sw : ∀ c : Dev nD, m ((c : Thread nD τ).loc main_arg4) = sw

variable {m x rw' ix ew sw} (H : Holds m x rw' ix ew sw)
include H

/-- An element of what device `d` stores for sending, as an extended real. -/
def sent (m : (ℓ : Loc nD τ sig) → Buf (Elt Ideal) ℓ) (d : Dev nD) (i j : Fin 512) : EReal := sendBuf m d (ix2 i j)

/-- What device `d` stores for sending: its four experts' terms of the sum over all experts. -/
theorem sent_at (d : Dev nD) (i j : Fin 512) :
    sent m d i j
      = ∑ e : Fin 4, Scalar.select (IntOp.cmpi CmpIPredicate.eq (ix (ix2 i 0)) (BitVec.ofNat 32 (4 * d.val + e.val)))
          (atExpert (ix (ix2 i 0)) (fun e => prob x rw' i e) * routed x ew i ⟨4 * d.val + e.val, by have : d.val < 32 := d.isLt; omega⟩ j) 0 := by
  have hE : ∀ (e : Fin 4) (k : Fin 256), ewM.view.readAt (Elt Ideal) (rEw e).toLoadRect (ewIn m d) (ix3 0 k j)
      = ew (ix3 ⟨4 * d.val + e.val, by have : d.val < 32 := d.isLt; omega⟩ k j) := fun e k => by
    rw [read_expert, ewIn_eq, H.ew d]
    show ew _ = ew _
    refine congrArg ew ?_
    shard_ext
  unfold sent sendBuf
  rw [xIn_eq, rwIn_eq, ixIn_eq, H.x d, H.rw d, H.ix d]
  refine (gated_at d _ _ _ _ i j).trans ?_
  refine Finset.sum_congr rfl fun e _ => ?_
  unfold routed
  simp only [hE]

/-- THE KERNEL'S VALUE: device `c`'s result is the model's at its rows. -/
theorem outBuf_at (c : Dev nD) (i : Fin 16) (j : Fin 512) : outBuf m c (ix2 i j) = value x rw' ix ew sw (rowAt c i) j := by
  have hS : sent m c (rowAt c i) j + ∑ k : Fin 31, sent m (source c k.succ) (rowAt c i) j
      = atExpert (ix (ix2 (rowAt c i) 0)) fun e => prob x rw' (rowAt c i) e * routed x ew (rowAt c i) e j := by
    refine (sum_sources c fun d => sent m d (rowAt c i) j).trans ?_
    rw [← atExpert_mul, ← sum_select, ← sum_experts]
    exact Finset.sum_congr rfl fun d _ => sent_at H d (rowAt c i) j
  unfold outBuf value
  refine (total_at _ _ _ _ i j).trans ?_
  rw [add_assoc]
  refine congrArg₂ (· + ·) ?_ ?_
  · refine Finset.sum_congr rfl fun k _ => ?_
    rw [read_mine, xIn_eq, swIn_eq, H.x c, H.sw c]
  · exact (congrArg₂ (fun a b : EReal => a + b) (read_own _ c i j)
      (Finset.sum_congr rfl fun k _ => read_slots _ c k i j)).trans hS

end Kernel

/-! ## The claim -/

/-- THE ALGEBRAIC CLAIM: from agreeing arguments, each device's result is its block of the reference's. -/
theorem algebraic : Cert.algebraic_KernelIdeal_ReferenceIdeal (hKernelIdeal := Cert.KernelIdeal.Gen.facts)
    (hReferenceIdeal := Cert.ReferenceIdeal.Gen.facts) := by
  intro m g m' g' _ hagree
  have H : Holds m _ _ _ _ _ := ⟨fun c => (hagree c).1, fun c => (hagree c).2.1, fun c => (hagree c).2.2.1,
    fun c => (hagree c).2.2.2.1, fun c => (hagree c).2.2.2.2⟩
  refine ⟨Cert.ReferenceIdeal.Value.res_main_v49 m' 0, ?_, ?_⟩
  · refine (θ_run Cert.KernelIdeal.defs _ _).mono (fun r h c => ⟨((h.1 c).1).trans ?_, (h.1 c).2⟩) (run_named (F := Ideal) m g)
    rw [refOut_eq]
    funext y
    obtain ⟨i, j, rfl⟩ : ∃ (i : Fin 16) (j : Fin 512), y = ix2 i j := ⟨y 0, y 1, eq_ix2 y⟩
    refine (outBuf_at H c i j).trans ((refOut_at _ _ _ _ _ _ _).symm.trans ?_)
    rw [Layout.block_apply]
    refine congrArg _ ?_
    funext a; apply Fin.ext
    match a with
    | ⟨0, _⟩ => show 16 * c.val + i.val = c.val * 16 + i.val; omega
    | ⟨1, _⟩ => rfl
  · exact (θ_run Cert.ReferenceIdeal.defs _ _).mono (fun r h => h 0) (Cert.ReferenceIdeal.Value.run (F := Ideal) m' g')

end Cert.K

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything claimed: the three frames, the idealization's text, and the equation of the kernel's and the reference's
    values. -/
theorem claim : Cert.Claim := ⟨Cert.Kernel.Gen.facts, Cert.KernelIdeal.Gen.facts, Cert.ReferenceIdeal.Gen.facts,
  Cert.K.frame_kernel, Cert.K.frame_ideal, Cert.K.frame_reference, trivial, Cert.K.algebraic⟩

end Cert.Proof

end
